-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S50000x3 : Shape := ⟨2, ![50000, 3]⟩
abbrev S50000x128 : Shape := ⟨2, ![50000, 128]⟩
abbrev S25000x16 : Shape := ⟨2, ![25000, 16]⟩
abbrev S_ : Shape := ⟨0, ![]⟩

class Facts : Prop where
  bcast_S_S25000x16 : S_.BroadcastsInDim S25000x16 (![] : Fin 0 → Fin S25000x16.rank)
  reducesTo_S25000x16_S_d0_1 : S25000x16.ReducesTo [0, 1] S_
  h_S_ : 0 < S_.numel

variable [Facts]

def fn {F : FTy → Type} [FloatOps F] (main_arg0 : FVec F S50000x3 .f32) (main_arg1 : FVec F S50000x128 .f32) (main_arg2 : IVec S25000x16 32) : IVec S_ 1 :=
  let main_c : IVec S_ 32 := constantI S_ 32 0#32
  let main_v0 : IVec S25000x16 32 := broadcastInDim S25000x16 ![] bcast_S_S25000x16 main_c
  let main_v1 : IVec S25000x16 1 := cmpi .sge main_arg2 main_v0
  let main_c_0 : IVec S_ 32 := constantI S_ 32 50000#32
  let main_v2 : IVec S25000x16 32 := broadcastInDim S25000x16 ![] bcast_S_S25000x16 main_c_0
  let main_v3 : IVec S25000x16 1 := cmpi .slt main_arg2 main_v2
  let main_v4 : IVec S25000x16 1 := andi main_v1 main_v3
  let main_c_1 : IVec S_ 1 := constantI S_ 1 1#1
  let main_v5 : IVec S_ 1 := (fun x v => Host.reduce IntOp.andi x v reducesTo_S25000x16_S_d0_1 h_S_) main_v4 main_c_1
  main_v5
-- ==== Kernel.lean ====
abbrev S50000x3 : Shape := ⟨2, ![50000, 3]⟩
abbrev S50000x128 : Shape := ⟨2, ![50000, 128]⟩
abbrev S25000x16 : Shape := ⟨2, ![25000, 16]⟩
abbrev S_ : Shape := ⟨0, ![]⟩
abbrev S25600x16 : Shape := ⟨2, ![25600, 16]⟩
abbrev S32x100x128 : Shape := ⟨3, ![32, 100, 128]⟩
abbrev S25600x128 : Shape := ⟨2, ![25600, 128]⟩
abbrev S100x128 : Shape := ⟨2, ![100, 128]⟩
abbrev S2x128x128 : Shape := ⟨3, ![2, 128, 128]⟩
abbrev S8x128 : Shape := ⟨2, ![8, 128]⟩
abbrev S1x100x128 : Shape := ⟨3, ![1, 100, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x16 : Shape := ⟨3, ![1, 1, 16]⟩
abbrev S16 : Shape := ⟨1, ![16]⟩
abbrev S1x16 : Shape := ⟨2, ![1, 16]⟩
abbrev S25000x128 : Shape := ⟨2, ![25000, 128]⟩

abbrev nBuf : Table → Nat
  | .hbm => 9
  | .local .scVector .vmem => 3
  | _ => 0

abbrev bufTy : (tb : Table) → Fin (nBuf tb) → BufTy
  | .hbm, ⟨0, _⟩ => ⟨S50000x3, .f32⟩
  | .hbm, ⟨1, _⟩ => ⟨S50000x128, .f32⟩
  | .hbm, ⟨2, _⟩ => ⟨S25000x16, .i32⟩
  | .hbm, ⟨3, _⟩ => ⟨S_, .i32⟩
  | .hbm, ⟨4, _⟩ => ⟨S_, .i32⟩
  | .hbm, ⟨5, _⟩ => ⟨S25600x16, .i32⟩
  | .hbm, ⟨6, _⟩ => ⟨S32x100x128, .i32⟩
  | .hbm, ⟨7, _⟩ => ⟨S25600x128, .f32⟩
  | .hbm, ⟨8, _⟩ => ⟨S25000x128, .f32⟩
  | .local .scVector .vmem, ⟨0, _⟩ => ⟨S100x128, .i32⟩
  | .local .scVector .vmem, ⟨1, _⟩ => ⟨S2x128x128, .f32⟩
  | .local .scVector .vmem, ⟨2, _⟩ => ⟨S8x128, .f32⟩
  | _, _ => ⟨S50000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1_scv : Ref sig .scVector := ⟨.hbm, 1, rfl⟩
abbrev main_v1_scv : Ref sig .scVector := ⟨.hbm, 6, rfl⟩
abbrev main_v2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  let c0_i32_16_r0 : BitVec 32 := 0#32
  ![v1.toNat, 0, 0]
@[reducible] def k0_t1_loop : Scf.Loop 32 :=
  let c0_i32_12 : BitVec 32 := 0#32
  let c50_i32 : BitVec 32 := 50#32
  let v13 : BitVec 32 := Scalar.addi c0_i32_12 c50_i32
  let c1_i32_13 : BitVec 32 := 1#32
  ⟨c0_i32_12, v13, c1_i32_13⟩
def k0_off2 (i : grid0.Coords) (k0_t1 : Fin k0_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let c0_i32_16 : BitVec 32 := 0#32
  let c0_i32_12 : BitVec 32 := 0#32
  let c1_i32_13 : BitVec 32 := 1#32
  let arg10 : BitVec 32 := Scf.iv c0_i32_12 c1_i32_13 k0_t1
  let c2_i32_15 : BitVec 32 := 2#32
  let v14 : BitVec 32 := Scalar.muli arg10 c2_i32_15
  let v15 : BitVec 32 := Scalar.addi c0_i32_16 v14
  let v16 : BitVec 32 := Scalar.addi v15 c0_i32_17
  let c8_i32_3093 : BitVec 32 := 8#32
  let v5334 : BitVec 32 := Scalar.muli v16 c8_i32_3093
  let v5335 : BitVec 32 := Scalar.addi v2 v5334
  let c0_i32_6309_r1 : BitVec 32 := 0#32
  ![v5335.toNat, 0]
def k0_cond1 (k0_t1 : Fin k0_t1_loop.trips) : BitVec 1 :=
  let c0_i32_16 : BitVec 32 := 0#32
  let c0_i32_12 : BitVec 32 := 0#32
  let c1_i32_13 : BitVec 32 := 1#32
  let arg10 : BitVec 32 := Scf.iv c0_i32_12 c1_i32_13 k0_t1
  let c2_i32_15 : BitVec 32 := 2#32
  let v14 : BitVec 32 := Scalar.muli arg10 c2_i32_15
  let v15 : BitVec 32 := Scalar.addi c0_i32_16 v14
  let c0_i32_17 : BitVec 32 := 0#32
  let v16 : BitVec 32 := Scalar.addi v15 c0_i32_17
  let c2_i32_3094 : BitVec 32 := 2#32
  let v5336 : BitVec 32 := Scalar.addi v16 c2_i32_3094
  let c100_i32_3095 : BitVec 32 := 100#32
  let v5337 : BitVec 1 := Scalar.cmpi .slt v5336 c100_i32_3095
  let v5338 : BitVec 32 := Scalar.extui v5337
  let c0_i32_3096 : BitVec 32 := 0#32
  let v5339 : BitVec 1 := Scalar.cmpi .ne v5338 c0_i32_3096
  v5339

def k0_off3 (k0_t1 : Fin k0_t1_loop.trips) : Fin 2 → Nat :=
  let c0_i32_16 : BitVec 32 := 0#32
  let c0_i32_12 : BitVec 32 := 0#32
  let c1_i32_13 : BitVec 32 := 1#32
  let arg10 : BitVec 32 := Scf.iv c0_i32_12 c1_i32_13 k0_t1
  let c2_i32_15 : BitVec 32 := 2#32
  let v14 : BitVec 32 := Scalar.muli arg10 c2_i32_15
  let v15 : BitVec 32 := Scalar.addi c0_i32_16 v14
  let c0_i32_17 : BitVec 32 := 0#32
  let v16 : BitVec 32 := Scalar.addi v15 c0_i32_17
  let c2_i32_3094 : BitVec 32 := 2#32
  let v5336 : BitVec 32 := Scalar.addi v16 c2_i32_3094
  let c0_i32_6312 : BitVec 32 := 0#32
  ![v5336.toNat, 0]
def k0_cond2 (k0_t1 : Fin k0_t1_loop.trips) : BitVec 1 :=
  let c0_i32_16 : BitVec 32 := 0#32
  let c0_i32_12 : BitVec 32 := 0#32
  let c1_i32_13 : BitVec 32 := 1#32
  let arg10 : BitVec 32 := Scf.iv c0_i32_12 c1_i32_13 k0_t1
  let c2_i32_15 : BitVec 32 := 2#32
  let v14 : BitVec 32 := Scalar.muli arg10 c2_i32_15
  let v15 : BitVec 32 := Scalar.addi c0_i32_16 v14
  let c1_i32_3097 : BitVec 32 := 1#32
  let v5340 : BitVec 32 := Scalar.addi v15 c1_i32_3097
  let c2_i32_6306 : BitVec 32 := 2#32
  let v10660 : BitVec 32 := Scalar.addi v5340 c2_i32_6306
  let c100_i32_6307 : BitVec 32 := 100#32
  let v10661 : BitVec 1 := Scalar.cmpi .slt v10660 c100_i32_6307
  let v10662 : BitVec 32 := Scalar.extui v10661
  let c0_i32_6308 : BitVec 32 := 0#32
  let v10663 : BitVec 1 := Scalar.cmpi .ne v10662 c0_i32_6308
  v10663

def k0_off4 (k0_t1 : Fin k0_t1_loop.trips) : Fin 2 → Nat :=
  let c0_i32_16 : BitVec 32 := 0#32
  let c0_i32_12 : BitVec 32 := 0#32
  let c1_i32_13 : BitVec 32 := 1#32
  let arg10 : BitVec 32 := Scf.iv c0_i32_12 c1_i32_13 k0_t1
  let c2_i32_15 : BitVec 32 := 2#32
  let v14 : BitVec 32 := Scalar.muli arg10 c2_i32_15
  let v15 : BitVec 32 := Scalar.addi c0_i32_16 v14
  let c1_i32_3097 : BitVec 32 := 1#32
  let v5340 : BitVec 32 := Scalar.addi v15 c1_i32_3097
  let c2_i32_6306 : BitVec 32 := 2#32
  let v10660 : BitVec 32 := Scalar.addi v5340 c2_i32_6306
  let c0_i32_6312 : BitVec 32 := 0#32
  ![v10660.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x3 : Shape := ⟨2, ![50000, 3]⟩
abbrev S50000x128 : Shape := ⟨2, ![50000, 128]⟩
abbrev S25000x16 : Shape := ⟨2, ![25000, 16]⟩
abbrev S_ : Shape := ⟨0, ![]⟩
abbrev S25000x16x1 : Shape := ⟨3, ![25000, 16, 1]⟩
abbrev S1 : Shape := ⟨1, ![1]⟩
abbrev S1x1x1 : Shape := ⟨3, ![1, 1, 1]⟩
abbrev S25000x16x128 : Shape := ⟨3, ![25000, 16, 128]⟩
abbrev S25000x128 : Shape := ⟨2, ![25000, 128]⟩

abbrev nBuf : Space → Nat
  | .hbm => 28
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S25000x16, .i32⟩
  | .hbm, ⟨3, _⟩ => ⟨S_, .i32⟩
  | .hbm, ⟨4, _⟩ => ⟨S25000x16, .i32⟩
  | .hbm, ⟨5, _⟩ => ⟨S25000x16, .i1⟩
  | .hbm, ⟨6, _⟩ => ⟨S_, .i32⟩
  | .hbm, ⟨7, _⟩ => ⟨S25000x16, .i32⟩
  | .hbm, ⟨8, _⟩ => ⟨S25000x16, .i32⟩
  | .hbm, ⟨9, _⟩ => ⟨S25000x16, .i32⟩
  | .hbm, ⟨10, _⟩ => ⟨S25000x16x1, .i32⟩
  | .hbm, ⟨11, _⟩ => ⟨S1, .i32⟩
  | .hbm, ⟨12, _⟩ => ⟨S_, .i32⟩
  | .hbm, ⟨13, _⟩ => ⟨S25000x16x1, .i32⟩
  | .hbm, ⟨14, _⟩ => ⟨S25000x16x1, .i1⟩
  | .hbm, ⟨15, _⟩ => ⟨S1x1x1, .i32⟩
  | .hbm, ⟨16, _⟩ => ⟨S25000x16x1, .i32⟩
  | .hbm, ⟨17, _⟩ => ⟨S25000x16x1, .i1⟩
  | .hbm, ⟨18, _⟩ => ⟨S25000x16x1, .i1⟩
  | .hbm, ⟨19, _⟩ => ⟨S_, .i1⟩
  | .hbm, ⟨20, _⟩ => ⟨S25000x16, .i1⟩
  | .hbm, ⟨21, _⟩ => ⟨S25000x16x128, .f32⟩
  | .hbm, ⟨22, _⟩ => ⟨S25000x16x128, .i1⟩
  | .hbm, ⟨23, _⟩ => ⟨S_, .f32⟩
  | .hbm, ⟨24, _⟩ => ⟨S25000x16x128, .f32⟩
  | .hbm, ⟨25, _⟩ => ⟨S25000x16x128, .f32⟩
  | .hbm, ⟨26, _⟩ => ⟨S_, .f32⟩
  | .hbm, ⟨27, _⟩ => ⟨S25000x128, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩

abbrev nD : Nat := 1
abbrev τ : Topo := Topo.v7x

variable {F : FTy → Type} [FloatOps F]
-- ==== Proof.Value.Words.lean ====
/-
  The words of the neighbour list: the precondition says that each names a row of the features, and so does each word
  of the padded list.
-/
module

public import proofs.«01_k».proof.Pre_in_range
public import proofs.«01_k».proof.Proof.Gen.Pre_in_range
public import Idealize.ShloMosaic.Lib.ReduceAll

@[expose] public section

noncomputable section

namespace Cert.Value

open Idealize.ShloMosaic

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- The precondition's test of one word says that it is below 50000. -/
theorem word_small (v : BitVec 32) (e : IntOp.andi (IntOp.cmpi .sge v 0#32) (IntOp.cmpi .slt v 50000#32) = 1#1) : v.toNat < 50000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Under the precondition every word of the neighbour list is below 50000. -/
theorem words_small {F : FTy → Type} [FloatOps F] [Cert.Pre_in_range.Facts] (a0 : FVec F Cert.Pre_in_range.S50000x3 .f32) (a1 : FVec F Cert.Pre_in_range.S50000x128 .f32)
    (a2 : IVec Cert.Pre_in_range.S25000x16 32) (h : Cert.Pre_in_range.fn a0 a1 a2 = fun _ => 1#1) (j : Cert.Pre_in_range.S25000x16.Idx) : (a2 j).toNat < 50000 := by
  have hs : Subsingleton Cert.Pre_in_range.S_.Idx := ⟨fun a b => funext fun i => i.elim0⟩
  have e := congrFun h (fun i => i.elim0)
  exact word_small _ (Host.reduce_andi_all _ _ _ _ _ e j)

/-- An element of a padded array is the padding or an element of the array. -/
theorem pad_cases {α : Type} {s : Shape} (t : Shape) (lo hi interior : Fin s.rank → Nat) (x : s.Idx → α) {u : Shape} (v : u.Idx → α)
    (h : s.Pads lo hi interior t) (hu : 0 < u.numel) (j : t.Idx) :
    (∃ k, pad t lo hi interior x v h hu j = x k) ∨ pad t lo hi interior x v h hu j = v (Shape.Idx.first hu) := by
  unfold pad
  split
  · exact .inl ⟨_, rfl⟩
  · exact .inr rfl

/-- The words of the list padded with zeros are below 50000 where the list's are. -/
theorem padded_small {s : Shape} (t t' : Shape) (lo hi interior : Fin s.rank → Nat) (x : s.Idx → BitVec 32) {u : Shape}
    (h : s.Pads lo hi interior t) (hu : 0 < u.numel) (hc : t.ShapeCasts t') (hx : ∀ k, (x k).toNat < 50000) (j : t'.Idx) :
    (shapeCast t' (pad t lo hi interior x (constantI u 32 0#32) h hu) hc j).toNat < 50000 := by
  unfold shapeCast
  rcases pad_cases t lo hi interior x (constantI u 32 0#32) h hu (Shape.reshapeEquiv hc j) with ⟨k, e⟩ | e
  · rw [e]; exact hx k
  · rw [e]; show (0#32).toNat < 50000; decide

end Cert.Value

end
-- ==== Proof.PoolIdeal.Rules.lean ====
/-
  The rules by which the pooling of one chunk is walked: a load from the row buffer, a load from the output buffer
  (its value unused), and a store of one pooled vector of sixteen lanes, each stated from and to the same resource
  `PoolAt n` — the row buffer's slot at the gathered rows, and the output buffer with its first `n` of sixty-four
  vectors pooled.
-/
module

public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The ghost state: the handshakes' rounds and the transfers' counters. -/
abbrev UH : Type := URounds (GSem nD τ sig) ℕ
abbrev UU : Type := UH × Counters

local notation "𝕄" => MT nD τ sig (HIx 1) (Elt F) ℕ UU ℕ

abbrev 𝒱₀ : Variants := Variants.none

abbrev featV : Memref sig Kind.scVector Space.hbm S50000x128 EltTy.f32 := Memref.whole main_arg1_scv
abbrev idxV : Memref sig Kind.scVector Space.hbm S32x100x128 EltTy.i32 := Memref.whole main_v1_scv
abbrev outV : Memref sig Kind.scVector Space.hbm S25600x128 EltTy.f32 := Memref.whole main_v2_scv
abbrev listV : Memref sig Kind.scVector Space.vmem S100x128 EltTy.i32 := Memref.whole cc0_scratch0
abbrev rowsV : Memref sig Kind.scVector Space.vmem S2x128x128 EltTy.f32 := Memref.whole cc0_scratch1
abbrev accV : Memref sig Kind.scVector Space.vmem S8x128 EltTy.f32 := Memref.whole cc0_scratch2

/-- The features, as a gather names them. -/
abbrev featW : Memref sig Kind.scVector Space.hbm S50000x128 EltTy.f32 :=
  featV.slice (Rect.unit (s := S50000x128) ![0, 0] S50000x128.size inb_S50000x128_S50000x128_0_0) (fun _ => rfl)
/-- The row buffer's first slot, as a gather names it. -/
abbrev slot0V : Memref sig Kind.scVector Space.vmem S128x128 EltTy.f32 :=
  (rowsV.slice (Rect.unit (s := S2x128x128) ![0, 0, 0] S1x128x128.size inb_S2x128x128_S1x128x128_0_0_0) (fun _ => rfl)).squeeze S128x128 squeezes_S1x128x128_S128x128
/-- The row buffer's second slot, as a gather names it. -/
abbrev slot1V : Memref sig Kind.scVector Space.vmem S128x128 EltTy.f32 :=
  (rowsV.slice (Rect.unit (s := S2x128x128) ![1, 0, 0] S1x128x128.size inb_S2x128x128_S1x128x128_1_0_0) (fun _ => rfl)).squeeze S128x128 squeezes_S1x128x128_S128x128

/-- The rows of the output that the copy of one chunk writes: chunk `r` of trip `t`. -/
abbrev outW (L : grid0.Coords) (t : Fin k0_t1_loop.trips) (r : Fin 2) : Memref sig Kind.scVector Space.hbm S8x128 EltTy.f32 :=
  outV.slice (Rect.unit (s := S25600x128) (k0_off2 L t (BitVec.ofNat 32 r.val)) S8x128.size (k0_off2_inb L t r)) (fun _ => rfl)
/-- The row of the index list that a gather reads, at offsets `off`. -/
abbrev listW (off : Fin 2 → ℕ) (h : ∀ a, off a + S1x128.size a ≤ S100x128.size a) : Memref sig Kind.scVector Space.vmem S128 EltTy.i32 :=
  (listV.slice (Rect.unit (s := S100x128) off S1x128.size h) (fun _ => rfl)).squeeze S128 squeezes_S1x128_S128

abbrev cV (L : grid0.Coords) : Fin τ.nSC := (L 0).castLE hcore0
abbrev jV (L : grid0.Coords) : Fin τ.nSub := (L 1).castLE hsub0
/-- The tile that runs the task at grid coordinates `L` of device `d`. -/
abbrev tile (d : Dev nD) (L : grid0.Coords) : Thread nD τ := V d (cV L) (jV L)

/-- The element of the row buffer at slot `i`, row `j`, lane `c` (the coordinates reduced, so that it is always one). -/
def at3 (i j c : ℕ) : S2x128x128.Idx :=
  fun a => match a with
    | 0 => ⟨i % 2, Nat.mod_lt _ (by decide)⟩
    | 1 => ⟨j % 128, Nat.mod_lt _ (by decide)⟩
    | 2 => ⟨c % 128, Nat.mod_lt _ (by decide)⟩

/-- Sixteen lanes, from `c` on, of row `j` of slot `i`. -/
def ld (R : S2x128x128.Idx → Elt F .f32) (i j c : ℕ) : Vec F S1x1x16 .f32 := fun x => R (at3 i j (c + (x 2).val))

/-- A load of those lanes reads them. -/
theorem readAt_ld {R : S2x128x128.Idx → Elt F .f32} {i j c : ℕ} (ho : ∀ a, (![i, j, c] : Fin 3 → ℕ) a + S1x1x16.size a ≤ S2x128x128.size a) :
    (rowsV).view.readAt (Elt F) (Rect.unit (s := S2x128x128) ![i, j, c] S1x1x16.size ho).toLoadRect R = ld R i j c := by
  have h0 : i + 1 ≤ 2 := ho 0
  have h1 : j + 1 ≤ 128 := ho 1
  have h2 : c + 16 ≤ 128 := ho 2
  funext x
  refine congrArg R (funext fun a => Fin.ext ?_)
  have x0 : (x 0).val < 1 := (x 0).isLt
  have x1 : (x 1).val < 1 := (x 1).isLt
  have x2 : (x 2).val < 16 := (x 2).isLt
  match a with
  | 0 => show i + 1 * (x 0).val = i % 2; rw [Nat.mod_eq_of_lt (by omega)]; omega
  | 1 => show j + 1 * (x 1).val = j % 128; rw [Nat.mod_eq_of_lt (by omega)]; omega
  | 2 => show c + 1 * (x 2).val = (c + (x 2).val) % 128; rw [Nat.mod_eq_of_lt (by omega)]; omega

/-- One of sixteen vectors as the pooling reads it. -/
abbrev lane (v : Vec F S1x1x16 .f32) : FVec F S16 .f32 := shapeCast S16 v shapeCasts_S1x1x16_S16

/-- The pooled vector of sixteen rows: the pairwise maxima, in four levels. -/
def poolVec (v : Fin 16 → Vec F S1x1x16 .f32) : FVec F S1x16 .f32 :=
  shapeCast S1x16
    (maximumf
      (maximumf (maximumf (maximumf (lane (v 0)) (lane (v 1))) (maximumf (lane (v 2)) (lane (v 3))))
        (maximumf (maximumf (lane (v 4)) (lane (v 5))) (maximumf (lane (v 6)) (lane (v 7)))))
      (maximumf (maximumf (maximumf (lane (v 8)) (lane (v 9))) (maximumf (lane (v 10)) (lane (v 11))))
        (maximumf (maximumf (lane (v 12)) (lane (v 13))) (maximumf (lane (v 14)) (lane (v 15)))))) shapeCasts_S16_S1x16

/-- What vector `n` of the output buffer is to hold: the sixteen rows `16 (n / 8) + k` of slot `b` pooled, lanes `16 (n % 8)` on. -/
abbrev pooled (R : S2x128x128.Idx → Elt F .f32) (b : Fin 2) (n : ℕ) : FVec F S1x16 .f32 :=
  poolVec fun k => ld R b.val (16 * (n / 8) + k.val) (16 * (n % 8))

/-- The output buffer's rectangle of vector `n`. -/
theorem st_inb (n : Fin 64) : ∀ a, (![n.val / 8, 16 * (n.val % 8)] : Fin 2 → Nat) a + S1x16.size a ≤ S8x128.size a := by
  intro a
  have := n.isLt
  match a with
  | 0 => show n.val / 8 + 1 ≤ 8; omega
  | 1 => show 16 * (n.val % 8) + 16 ≤ 128; omega
abbrev stRect (n : Fin 64) : Rect S8x128 := Rect.unit (s := S8x128) ![n.val / 8, 16 * (n.val % 8)] S1x16.size (st_inb n)

/-- The first `n` vectors of the output buffer hold the pooled rows of slot `b` of `R`. -/
def Done (R : S2x128x128.Idx → Elt F .f32) (b : Fin 2) (n : ℕ) (f : S8x128.Idx → Elt F .f32) : Prop :=
  ∀ k : Fin 64, k.val < n → ∀ x : S1x16.Idx, f ((stRect k).emb x) = pooled R b k.val x

/-- The elements of slot `b` of the row buffer. -/
def slotSet (b : Fin 2) : Finset S2x128x128.Idx := Finset.univ.filter fun x => (x 0).val = b.val

/-- The row buffer's slot at `R`, the output buffer with `n` vectors pooled, and what the walk does not touch. -/
def PoolAt (d : Dev nD) (L : grid0.Coords) (R : S2x128x128.Idx → Elt F .f32) (b : Fin 2) (Fr : sProp 𝕄) (n : ℕ) : sProp 𝕄 :=
  iprop(((rowsV).view.loc (tile d L) ↦[slotSet b]{fullShare} R) ∗ (∃ f, ⌜Done R b n f⌝ ∗ ((accV).view.loc (tile d L) ↦{fullShare} f)) ∗ Fr)

/-- Storing vector `n`, pooled, over a buffer whose first `n` vectors are done. -/
theorem done_succ {R : S2x128x128.Idx → Elt F .f32} {b : Fin 2} {n : ℕ} {f : S8x128.Idx → Elt F .f32} (hn : n < 64) (hf : Done R b n f) :
    Done R b (n + 1) (((accV).access (stRect ⟨n, hn⟩)).write (Elt F) f (pooled R b n) Finset.univ) := by
  intro k hk x
  by_cases h : k.val = n
  · obtain rfl : k = ⟨n, hn⟩ := Fin.ext h
    exact (View.write_emb_of_mem (v := (accV).access (stRect ⟨n, hn⟩)) f (pooled R b n) (Finset.mem_univ x)).trans rfl
  · refine (View.write_of_not_mem _ _ _ ?_).trans (hf k (by omega) x)
    intro hm
    obtain ⟨y, -, hy⟩ := Finset.mem_map.1 hm
    have hy' : (stRect ⟨n, hn⟩).emb y = (stRect k).emb x := hy
    have h0 := congrArg Fin.val (congrFun hy' 0)
    have h1 := congrArg Fin.val (congrFun hy' 1)
    have e0 : n / 8 + 1 * (y 0).val = k.val / 8 + 1 * (x 0).val := h0
    have e1 : 16 * (n % 8) + 1 * (y 1).val = 16 * (k.val % 8) + 1 * (x 1).val := h1
    have y0 : (y 0).val < 1 := (y 0).isLt
    have x0 : (x 0).val < 1 := (x 0).isLt
    have y1 : (y 1).val < 16 := (y 1).isLt
    have x1 : (x 1).val < 16 := (x 1).isLt
    omega

/-- The same, the rectangle's offsets given otherwise. -/
theorem done_succ' {R : S2x128x128.Idx → Elt F .f32} {b : Fin 2} {n : ℕ} {f : S8x128.Idx → Elt F .f32} {off : Fin 2 → ℕ}
    {ho : ∀ a, off a + S1x16.size a ≤ S8x128.size a} (hn : n < 64) (hoff : off = ![n / 8, 16 * (n % 8)]) (hf : Done R b n f) :
    Done R b (n + 1) (((accV).access (Rect.unit (s := S8x128) off S1x16.size ho)).write (Elt F) f (pooled R b n) Finset.univ) := by
  subst hoff; exact done_succ hn hf

section Walk

variable {d : Dev nD} {L : grid0.Coords} {R : S2x128x128.Idx → Elt F .f32} {b : Fin 2} {Fr : sProp (MT nD τ sig (HIx 1) (Elt F) ℕ UU ℕ)} {n : ℕ} {α β : Type}

/-- The weakest precondition of a tile's program, held opaque while a walk matches it. -/
@[irreducible] def WP (d : Dev nD) (L : grid0.Coords) {α : Type} (p : Prog (TpuEff nD τ sig (Elt F) Λ₀ (tile d L).2) α) (Q : α → sProp 𝕄) : sProp 𝕄 :=
  wp frame (wpE (defs₀ (F := F)) 𝒱₀ (tile d L) none) Set.univ p Q

theorem WP_eq (p : Prog (TpuEff nD τ sig (Elt F) Λ₀ (tile d L).2) α) (Q : α → sProp 𝕄) :
    WP d L p Q = wp frame (wpE (defs₀ (F := F)) 𝒱₀ (tile d L) none) Set.univ p Q := by unfold WP; rfl

theorem w_bind {P : sProp 𝕄} {p : Prog (TpuEff nD τ sig (Elt F) Λ₀ (tile d L).2) α} {k : α → Prog (TpuEff nD τ sig (Elt F) Λ₀ (tile d L).2) β} {Q : β → sProp 𝕄}
    (h : P ⊢ WP d L p (fun a => WP d L (k a) Q)) : P ⊢ WP d L (p >>= k) Q := by
  simp only [WP_eq] at h ⊢; rw [wp_bind]; exact h

theorem w_pure {P : sProp 𝕄} {a : α} {Q : α → sProp 𝕄} (h : P ⊢ Q a) : P ⊢ WP d L (pure a) Q := by
  rw [WP_eq]; exact h.trans (le_wp_ret _ _ _ a Q)

theorem w_dite {P : sProp 𝕄} {c : Prop} [Decidable c] {p : c → Prog (TpuEff nD τ sig (Elt F) Λ₀ (tile d L).2) α} {q : ¬ c → Prog (TpuEff nD τ sig (Elt F) Λ₀ (tile d L).2) α}
    {Q : α → sProp 𝕄} (hp : ∀ h, P ⊢ WP d L (p h) Q) (hq : ∀ h, P ⊢ WP d L (q h) Q) : P ⊢ WP d L (dite c p q) Q := by
  split
  · exact hp _
  · exact hq _

theorem w_load6 {i j c : ℕ} {ho : ∀ a, (![i, j, c] : Fin 3 → ℕ) a + S1x1x16.size a ≤ S2x128x128.size a}
    {hl : (rowsV).view.LoadsAt (Rect.unit (s := S2x128x128) ![i, j, c] S1x1x16.size ho).toLoadRect}
    {Q : Vec F S1x1x16 .f32 → sProp 𝕄} (h0 : i = b.val) (h : PoolAt d L R b Fr n ⊢ Q (ld R i j c)) :
    PoolAt d L R b Fr n ⊢ WP d L (Prog.lift (.load rowsV (Rect.unit (s := S2x128x128) ![i, j, c] S1x1x16.size ho).toLoadRect hl)) Q := by
  have hS : (rowsV).view.setOn (Rect.unit (s := S2x128x128) ![i, j, c] S1x1x16.size ho).toLoadRect.set ⊆ slotSet b := by
    intro x hx
    obtain ⟨y, hy, rfl⟩ := Finset.mem_map.1 hx
    have h1 := (Rect.mem_set_unit (s := S2x128x128) (inb := ho)).1 hy 0
    have h2 : i ≤ (y 0).val ∧ (y 0).val < i + 1 := h1
    refine Finset.mem_filter.2 ⟨Finset.mem_univ _, ?_⟩
    show (y 0).val = b.val
    omega
  rw [← readAt_ld ho] at h
  unfold PoolAt at h ⊢
  rw [WP_eq]
  iintro ⟨Hr, Ha, HF⟩
  iapply (wp_load 𝒱₀ (tile d L) none Set.univ hS) $$ Hr
  iintro Hr
  iapply (le_wp_ret frame _ Set.univ _ Q)
  iapply h
  isplitl [Hr]; · iexact Hr
  isplitl [Ha] <;> iassumption

theorem w_load7 {r : LoadRect S8x128} {hl : (accV).view.LoadsAt r}
    {Q : (r.shape.Idx → Elt F .f32) → sProp 𝕄}
    (h : ∀ v, PoolAt d L R b Fr n ⊢ Q v) :
    PoolAt d L R b Fr n ⊢ WP d L (Prog.lift (.load accV r hl)) Q := by
  unfold PoolAt at h ⊢
  rw [WP_eq]
  iintro ⟨Hr, ⟨%f, %hf, Ha⟩, HF⟩
  iapply (wp_load 𝒱₀ (tile d L) none Set.univ (Finset.subset_univ _)) $$ Ha
  iintro Ha
  iapply (le_wp_ret frame _ Set.univ _ Q)
  iapply (h _)
  isplitl [Hr]; · iexact Hr
  isplitl [Ha]
  · iexists f; isplitr; · ipureintro; exact hf
    iexact Ha
  iexact HF

theorem w_store {r c i j0 j1 j2 j3 j4 j5 j6 j7 j8 j9 j10 j11 j12 j13 j14 j15 : ℕ} {ho : ∀ a, (![r, c] : Fin 2 → ℕ) a + S1x16.size a ≤ S8x128.size a}
    {hx : ((accV).access (Rect.unit (s := S8x128) ![r, c] S1x16.size ho)).Stores Finset.univ} {hm}
    {Q : PUnit → sProp 𝕄} (h0 : i = b.val) (hc : c % 16 = 0) (hn : 8 * r + c / 16 = n)
    (hj : [j0, j1, j2, j3, j4, j5, j6, j7, j8, j9, j10, j11, j12, j13, j14, j15] = (List.range 16).map (16 * r + ·))
    (h : PoolAt d L R b Fr (8 * r + c / 16 + 1) ⊢ Q ⟨⟩) :
    PoolAt d L R b Fr n ⊢ WP d L (Prog.lift (.store accV (Rect.unit (s := S8x128) ![r, c] S1x16.size ho)
      (shapeCast S1x16 (maximumf
        (maximumf (maximumf (maximumf (lane (ld R i j0 c)) (lane (ld R i j1 c))) (maximumf (lane (ld R i j2 c)) (lane (ld R i j3 c))))
          (maximumf (maximumf (lane (ld R i j4 c)) (lane (ld R i j5 c))) (maximumf (lane (ld R i j6 c)) (lane (ld R i j7 c)))))
        (maximumf (maximumf (maximumf (lane (ld R i j8 c)) (lane (ld R i j9 c))) (maximumf (lane (ld R i j10 c)) (lane (ld R i j11 c))))
          (maximumf (maximumf (lane (ld R i j12 c)) (lane (ld R i j13 c))) (maximumf (lane (ld R i j14 c)) (lane (ld R i j15 c))))))
        shapeCasts_S16_S1x16) Finset.univ hx hm)) Q := by
  have hr1 : r + 1 ≤ 8 := ho 0
  have hc1 : c + 16 ≤ 128 := ho 1
  obtain ⟨q, rfl⟩ : ∃ q, c = 16 * q := ⟨c / 16, by omega⟩
  obtain rfl : n = 8 * r + q := by omega
  have hlt : 8 * r + q < 64 := by omega
  have hd : (8 * r + q) / 8 = r := by omega
  have hm8 : (8 * r + q) % 8 = q := by omega
  have hq : 8 * r + 16 * q / 16 + 1 = 8 * r + q + 1 := by omega
  rw [hq] at h
  have e : List.map (16 * r + ·) (List.range 16) = [16 * r + 0, 16 * r + 1, 16 * r + 2, 16 * r + 3, 16 * r + 4, 16 * r + 5, 16 * r + 6, 16 * r + 7, 16 * r + 8, 16 * r + 9, 16 * r + 10, 16 * r + 11, 16 * r + 12, 16 * r + 13, 16 * r + 14, 16 * r + 15] := rfl
  rw [e] at hj
  simp only [List.cons.injEq, and_true] at hj
  obtain ⟨rfl, rfl, rfl, rfl, rfl, rfl, rfl, rfl, rfl, rfl, rfl, rfl, rfl, rfl, rfl, rfl⟩ := hj
  subst h0
  have hf' : ∀ {f}, Done R b (8 * r + q) f → Done R b (8 * r + q + 1) (((accV).access (Rect.unit (s := S8x128) ![r, 16 * q] S1x16.size ho)).write (Elt F) f
      (pooled R b (8 * r + q)) Finset.univ) := by
    intro f hf
    exact done_succ' hlt (by rw [hd, hm8]) hf
  have hw : pooled R b (8 * r + q) = (shapeCast S1x16 (maximumf
        (maximumf (maximumf (maximumf (lane (ld R b.val (16 * r + 0) (16 * q))) (lane (ld R b.val (16 * r + 1) (16 * q)))) (maximumf (lane (ld R b.val (16 * r + 2) (16 * q))) (lane (ld R b.val (16 * r + 3) (16 * q)))))
          (maximumf (maximumf (lane (ld R b.val (16 * r + 4) (16 * q))) (lane (ld R b.val (16 * r + 5) (16 * q)))) (maximumf (lane (ld R b.val (16 * r + 6) (16 * q))) (lane (ld R b.val (16 * r + 7) (16 * q))))))
        (maximumf (maximumf (maximumf (lane (ld R b.val (16 * r + 8) (16 * q))) (lane (ld R b.val (16 * r + 9) (16 * q)))) (maximumf (lane (ld R b.val (16 * r + 10) (16 * q))) (lane (ld R b.val (16 * r + 11) (16 * q)))))
          (maximumf (maximumf (lane (ld R b.val (16 * r + 12) (16 * q))) (lane (ld R b.val (16 * r + 13) (16 * q)))) (maximumf (lane (ld R b.val (16 * r + 14) (16 * q))) (lane (ld R b.val (16 * r + 15) (16 * q)))))))
        shapeCasts_S16_S1x16) := by
    unfold pooled; rw [hd, hm8]; rfl
  unfold PoolAt at h ⊢
  rw [WP_eq]
  iintro ⟨Hr, ⟨%f, %hf, Ha⟩, HF⟩
  iapply (wp_store 𝒱₀ (tile d L) none Set.univ (m := accV) (r := Rect.unit (s := S8x128) ![r, 16 * q] S1x16.size ho) (hx := hx) (hm := hm) (Finset.subset_univ _)) $$ Ha
  iintro Ha
  iapply (le_wp_ret frame _ Set.univ _ Q)
  iapply h
  isplitl [Hr]; · iexact Hr
  isplitl [Ha]
  · iexists _; isplitr
    swap; · iexact Ha
    ipureintro; rw [← hw]; exact hf' hf
  iexact HF

end Walk

end Cert.KernelIdeal.Pool

end
-- ==== Proof.PoolIdeal.Values.lean ====
/-
  What the pooling leaves, as functions of the features and the index array: the rows a gather fetches, the pooled
  value of an output element, and that sixty-four pooled vectors are eight rows of it.
-/
module

public import proofs.«01_k».proof.Proof.PoolIdeal.Rules
public import Idealize.ShloMosaic.Lib.Pipeline.Value

@[expose] public section

noncomputable section

namespace Cert.KernelIdeal.Pool

open Cert.KernelIdeal Cert.KernelIdeal.Gen

open Idealize.ShloMosaic

variable {F : FTy → Type} [FloatOps F]

/-- Row `r`, lane `c` of the features (reduced, so that it is always an index). -/
def fx (r c : ℕ) : S50000x128.Idx :=
  fun a => match a with
    | 0 => ⟨r % 50000, Nat.mod_lt _ (by decide)⟩
    | 1 => ⟨c % 128, Nat.mod_lt _ (by decide)⟩

/-- Row `r`, column `c` of a task's index list. -/
def lx (r c : ℕ) : S100x128.Idx :=
  fun a => match a with
    | 0 => ⟨r % 100, Nat.mod_lt _ (by decide)⟩
    | 1 => ⟨c % 128, Nat.mod_lt _ (by decide)⟩

/-- Task `w`, row `r`, column `c` of the index array. -/
def ix (w r c : ℕ) : S32x100x128.Idx :=
  fun a => match a with
    | 0 => ⟨w % 32, Nat.mod_lt _ (by decide)⟩
    | 1 => ⟨r % 100, Nat.mod_lt _ (by decide)⟩
    | 2 => ⟨c % 128, Nat.mod_lt _ (by decide)⟩

/-- Row `r`, lane `c` of the output. -/
def ox (r c : ℕ) : S25600x128.Idx :=
  fun a => match a with
    | 0 => ⟨r % 25600, Nat.mod_lt _ (by decide)⟩
    | 1 => ⟨c % 128, Nat.mod_lt _ (by decide)⟩

/-- The index list of task `w`. -/
def lst (I : S32x100x128.Idx → Elt F .i32) (w : ℕ) : S100x128.Idx → Elt F .i32 :=
  fun x => I (ix w (x 0).val (x 1).val)

/-- The rows that list row `g` names, in either slot. -/
def gath (X : S50000x128.Idx → Elt F .f32) (l : S100x128.Idx → Elt F .i32) (g : ℕ) : S2x128x128.Idx → Elt F .f32 :=
  fun x => X (fx (l (lx g (x 1).val)).toNat (x 2).val)

/-- The maximum of sixteen values, pairwise in four levels. -/
def tree (v : Fin 16 → F .f32) : F .f32 :=
  FloatOps.maximumf
    (FloatOps.maximumf (FloatOps.maximumf (FloatOps.maximumf (v 0) (v 1)) (FloatOps.maximumf (v 2) (v 3)))
      (FloatOps.maximumf (FloatOps.maximumf (v 4) (v 5)) (FloatOps.maximumf (v 6) (v 7))))
    (FloatOps.maximumf (FloatOps.maximumf (FloatOps.maximumf (v 8) (v 9)) (FloatOps.maximumf (v 10) (v 11)))
      (FloatOps.maximumf (FloatOps.maximumf (v 12) (v 13)) (FloatOps.maximumf (v 14) (v 15))))

/-- The pooled output, padded rows included: at row `p`, lane `l`, the maximum over the sixteen rows `p` names. -/
def spec (X : S50000x128.Idx → Elt F .f32) (I : S32x100x128.Idx → Elt F .i32) : S25600x128.Idx → Elt F .f32 :=
  fun y => tree fun k => X (fx (I (ix ((y 0).val / 800) ((y 0).val % 800 / 8) (16 * ((y 0).val % 8) + k.val))).toNat (y 1).val)

/-- A lane of the pooled vector is the maximum of the sixteen lanes. -/
theorem poolVec_apply (v : Fin 16 → Vec F S1x1x16 .f32) (x : S1x16.Idx) (z : S1x1x16.Idx) (hz : (z 2).val = (x 1).val) :
    poolVec v x = tree fun k => v k z := by
  have x0 : (x 0).val < 1 := (x 0).isLt
  have z0 : (z 0).val < 1 := (z 0).isLt
  have z1 : (z 1).val < 1 := (z 1).isLt
  have hx1 : (x 1).val < 16 := (x 1).isLt
  let j : S16.Idx := fun a => match a with | 0 => ⟨(x 1).val, hx1⟩
  have hl : ∀ w : Vec F S1x1x16 .f32, lane w j = w z := fun w => by
    refine shapeCast_apply w _ j z ?_
    rw [Shape.rowMajor_val_three, Shape.rowMajor_val_one]
    show ((z 0).val * 1 + (z 1).val) * 16 + (z 2).val = (x 1).val
    omega
  unfold poolVec
  rw [shapeCast_apply _ _ x j (by
    rw [Shape.rowMajor_val_two, Shape.rowMajor_val_one]
    show (x 1).val = (x 0).val * 16 + (x 1).val
    omega)]
  simp only [maximumf, hl, tree]

/-- Eight rows of the output buffer, all pooled from the rows list row `g` of task `w` names, are the output's at rows
`800 w + 8 g` on. -/
theorem done_spec {X : S50000x128.Idx → Elt F .f32} {I : S32x100x128.Idx → Elt F .i32} {w g : ℕ} (hw : w < 32) (hg : g < 100) {b : Fin 2}
    {f : S8x128.Idx → Elt F .f32} (hf : Done (gath X (lst I w) g) b 64 f) (z : S8x128.Idx) (y : S25600x128.Idx)
    (h0 : (y 0).val = 800 * w + 8 * g + (z 0).val) (h1 : (y 1).val = (z 1).val) : f z = spec X I y := by
  have z0 : (z 0).val < 8 := (z 0).isLt
  have z1 : (z 1).val < 128 := (z 1).isLt
  let n : Fin 64 := ⟨8 * (z 0).val + (z 1).val / 16, by omega⟩
  let x : S1x16.Idx := fun a => match a with
    | 0 => ⟨0, by decide⟩
    | 1 => ⟨(z 1).val % 16, Nat.mod_lt _ (by decide)⟩
  have hn8 : n.val / 8 = (z 0).val := by show (8 * (z 0).val + (z 1).val / 16) / 8 = _; omega
  have hn8' : n.val % 8 = (z 1).val / 16 := by show (8 * (z 0).val + (z 1).val / 16) % 8 = _; omega
  have hz : (stRect n).emb x = z := by
    funext a
    match a with
    | 0 => exact Fin.ext (by show n.val / 8 + 1 * 0 = (z 0).val; omega)
    | 1 => exact Fin.ext (by show 16 * (n.val % 8) + 1 * ((z 1).val % 16) = (z 1).val; omega)
  have e := hf n n.isLt x
  rw [hz] at e
  rw [e]
  let z' : S1x1x16.Idx := fun a => match a with
    | 0 => ⟨0, by decide⟩
    | 1 => ⟨0, by decide⟩
    | 2 => ⟨(z 1).val % 16, Nat.mod_lt _ (by decide)⟩
  refine (poolVec_apply _ x z' rfl).trans ?_
  unfold spec
  refine congrArg tree (funext fun k => ?_)
  have hk := k.isLt
  show X (fx (I (ix w (g % 100) ((16 * (n.val / 8) + k.val) % 128 % 128))).toNat ((16 * (n.val % 8) + (z 1).val % 16) % 128)) = _
  rw [hn8, hn8']
  have e1 : (16 * ((z 1).val / 16) + (z 1).val % 16) % 128 = (y 1).val := by omega
  have e2 : (16 * (z 0).val + k.val) % 128 % 128 = 16 * ((y 0).val % 8) + k.val := by omega
  have e3 : g % 100 = (y 0).val % 800 / 8 := by omega
  have e4 : w = (y 0).val / 800 := by omega
  rw [e1, e2, e3, ← e4]

end Cert.KernelIdeal.Pool

end
-- ==== Proof.PoolIdeal.Windows.lean ====
/-
  The windows the copies name, as elements of the buffers: the two slots of the row buffer, a row of the index list, the
  features, the eight output rows of a chunk — and what a gather, and a copy out, leave in them.
-/
module

public import proofs.«01_k».proof.Proof.PoolIdeal.Values

@[expose] public section

noncomputable section

namespace Cert.KernelIdeal.Pool

open Cert.KernelIdeal Cert.KernelIdeal.Gen

open Idealize.ShloMosaic

variable {F : FTy → Type} [FloatOps F]

/-- The task's number at grid coordinates `L`. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  show 2 * (L 1).val + (L 0).val < 32
  omega

/-- The output's rows of task `w`. -/
def outSet (w : ℕ) : Finset S25600x128.Idx := Finset.univ.filter fun y => (y 0).val / 800 = w
/-- The index array's plane of task `w`. -/
def idxSet (w : ℕ) : Finset S32x100x128.Idx := Finset.univ.filter fun x => (x 0).val = w

theorem slot_inb (b : Fin 2) : ∀ a, (![b.val, 0, 0] : Fin 3 → ℕ) a + S1x128x128.size a ≤ S2x128x128.size a := by
  intro a
  have := b.isLt
  match a with
  | 0 => show b.val + 1 ≤ 2; omega
  | 1 => show 0 + 128 ≤ 128; omega
  | 2 => show 0 + 128 ≤ 128; omega

/-- Slot `b` of the row buffer, as a gather names it. -/
abbrev slotV (b : Fin 2) : Memref sig Kind.scVector Space.vmem S128x128 EltTy.f32 :=
  (rowsV.slice (Rect.unit (s := S2x128x128) ![b.val, 0, 0] S1x128x128.size (slot_inb b)) (fun _ => rfl)).squeeze S128x128 squeezes_S1x128x128_S128x128

/-- The task's plane of the index array, as the first copy names it. -/
abbrev idxW (L : grid0.Coords) : Memref sig Kind.scVector Space.hbm S100x128 EltTy.i32 :=
  (idxV.slice (Rect.unit (s := S32x100x128) (k0_off1 L) S1x100x128.size (k0_off1_inb L)) (fun _ => rfl)).squeeze S100x128 squeezes_S1x100x128_S100x128

theorem slot_emb (b : Fin 2) (y : S128x128.Idx) : (slotV b).view.emb y = at3 b.val (y 0).val (y 1).val := by
  have y0 : (y 0).val < 128 := (y 0).isLt
  have y1 : (y 1).val < 128 := (y 1).isLt
  have hb := b.isLt
  let z : S1x128x128.Idx := fun a => match a with
    | 0 => ⟨0, by decide⟩
    | 1 => ⟨(y 0).val, y0⟩
    | 2 => ⟨(y 1).val, y1⟩
  have e : Shape.reshapeEquiv squeezes_S1x128x128_S128x128.numel_eq y = z := by
    apply Shape.reshapeEquiv_eq_of_rowMajor
    rw [Shape.rowMajor_val_three, Shape.rowMajor_val_two]
    show (0 * 128 + (y 0).val) * 128 + (y 1).val = (y 0).val * 128 + (y 1).val
    omega
  show (Rect.unit (s := S2x128x128) ![b.val, 0, 0] S1x128x128.size (slot_inb b)).emb (Shape.reshapeEquiv squeezes_S1x128x128_S128x128.numel_eq y) = _
  rw [e]
  funext a
  refine Fin.ext ?_
  match a with
  | 0 => show b.val + 1 * 0 = b.val % 2; omega
  | 1 => show 0 + 1 * (y 0).val = (y 0).val % 128; omega
  | 2 => show 0 + 1 * (y 1).val = (y 1).val % 128; omega

theorem slot_set (b : Fin 2) : (slotV b).view.set = slotSet b := by
  ext x
  have x0 : (x 0).val < 2 := (x 0).isLt
  have x1 : (x 1).val < 128 := (x 1).isLt
  have x2 : (x 2).val < 128 := (x 2).isLt
  constructor
  · intro hx
    obtain ⟨y, -, rfl⟩ := Finset.mem_map.1 hx
    refine Finset.mem_filter.2 ⟨Finset.mem_univ _, ?_⟩
    rw [slot_emb]
    exact Nat.mod_eq_of_lt b.isLt
  · intro hx
    have hb : (x 0).val = b.val := (Finset.mem_filter.1 hx).2
    let y : S128x128.Idx := fun a => match a with
      | 0 => ⟨(x 1).val, x1⟩
      | 1 => ⟨(x 2).val, x2⟩
    have e : (slotV b).view.emb y = x := by
      rw [slot_emb]
      funext a
      refine Fin.ext ?_
      match a with
      | 0 => show b.val % 2 = (x 0).val; omega
      | 1 => show (x 1).val % 128 = (x 1).val; omega
      | 2 => show (x 2).val % 128 = (x 2).val; omega
    rw [← e]; exact View.emb_mem_set _ _

theorem feat_emb (x : S50000x128.Idx) : (featW).view.emb x = x := by
  funext a
  refine Fin.ext ?_
  match a with
  | 0 => show 0 + 1 * (x 0).val = (x 0).val; omega
  | 1 => show 0 + 1 * (x 1).val = (x 1).val; omega

theorem feat_set : (featW).view.set = Finset.univ := by
  ext x
  simp only [Finset.mem_univ, iff_true]
  have := View.emb_mem_set (featW).view x
  rwa [feat_emb] at this

theorem list_emb {off : Fin 2 → ℕ} {h : ∀ a, off a + S1x128.size a ≤ S100x128.size a} {g : ℕ} (hoff : off = ![g, 0]) (x : S128.Idx) :
    (listW off h).view.emb x = lx g (x 0).val := by
  subst hoff
  have x0 : (x 0).val < 128 := (x 0).isLt
  have hg : g + 1 ≤ 100 := h 0
  let z : S1x128.Idx := fun a => match a with
    | 0 => ⟨0, by decide⟩
    | 1 => ⟨(x 0).val, x0⟩
  have e : Shape.reshapeEquiv squeezes_S1x128_S128.numel_eq x = z := by
    apply Shape.reshapeEquiv_eq_of_rowMajor
    rw [Shape.rowMajor_val_two, Shape.rowMajor_val_one]
    show 0 * 128 + (x 0).val = (x 0).val
    omega
  show (Rect.unit (s := S100x128) ![g, 0] S1x128.size h).emb (Shape.reshapeEquiv squeezes_S1x128_S128.numel_eq x) = _
  rw [e]
  funext a
  refine Fin.ext ?_
  match a with
  | 0 => show g + 1 * 0 = g % 100; omega
  | 1 => show 0 + 1 * (x 0).val = (x 0).val % 128; omega

theorem idx_emb (L : grid0.Coords) (x : S100x128.Idx) : (idxW L).view.emb x = ix (wid L) (x 0).val (x 1).val := by
  have x0 : (x 0).val < 100 := (x 0).isLt
  have x1 : (x 1).val < 128 := (x 1).isLt
  have hw := wid_lt L
  let z : S1x100x128.Idx := fun a => match a with
    | 0 => ⟨0, by decide⟩
    | 1 => ⟨(x 0).val, x0⟩
    | 2 => ⟨(x 1).val, x1⟩
  have e : Shape.reshapeEquiv squeezes_S1x100x128_S100x128.numel_eq x = z := by
    apply Shape.reshapeEquiv_eq_of_rowMajor
    rw [Shape.rowMajor_val_three, Shape.rowMajor_val_two]
    show (0 * 100 + (x 0).val) * 128 + (x 1).val = (x 0).val * 128 + (x 1).val
    omega
  show (Rect.unit (s := S32x100x128) (k0_off1 L) S1x100x128.size (k0_off1_inb L)).emb (Shape.reshapeEquiv squeezes_S1x100x128_S100x128.numel_eq x) = _
  rw [e]
  funext a
  refine Fin.ext ?_
  have ho := congrFun (k0_off1_eq L) a
  match a with
  | 0 =>
    have ho' : k0_off1 L 0 = wid L := ho
    show k0_off1 L 0 + 1 * 0 = wid L % 32; omega
  | 1 =>
    have ho' : k0_off1 L 1 = 0 := ho
    show k0_off1 L 1 + 1 * (x 0).val = (x 0).val % 100; omega
  | 2 =>
    have ho' : k0_off1 L 2 = 0 := ho
    show k0_off1 L 2 + 1 * (x 1).val = (x 1).val % 128; omega

theorem idx_set (L : grid0.Coords) : (idxW L).view.set = idxSet (wid L) := by
  have hw := wid_lt L
  ext x
  have x1 : (x 1).val < 100 := (x 1).isLt
  have x2 : (x 2).val < 128 := (x 2).isLt
  constructor
  · intro hx
    obtain ⟨y, -, rfl⟩ := Finset.mem_map.1 hx
    refine Finset.mem_filter.2 ⟨Finset.mem_univ _, ?_⟩
    rw [idx_emb]
    exact Nat.mod_eq_of_lt hw
  · intro hx
    have hb : (x 0).val = wid L := (Finset.mem_filter.1 hx).2
    let y : S100x128.Idx := fun a => match a with
      | 0 => ⟨(x 1).val, x1⟩
      | 1 => ⟨(x 2).val, x2⟩
    have e : (idxW L).view.emb y = x := by
      rw [idx_emb]
      funext a
      refine Fin.ext ?_
      match a with
      | 0 => show wid L % 32 = (x 0).val; omega
      | 1 => show (x 1).val % 100 = (x 1).val; omega
      | 2 => show (x 2).val % 128 = (x 2).val; omega
    rw [← e]; exact View.emb_mem_set _ _

/-- The first copy fetches the task's list. -/
theorem idx_read (L : grid0.Coords) (I : S32x100x128.Idx → Elt F .i32) : (idxW L).view.read (Elt F) I = lst I (wid L) := by
  funext x
  exact ((View.read_apply _ _).trans (cast_eq _ _)).trans (congrArg I (idx_emb L x))

/-- The words of a list row are words of the list. -/
theorem list_read {off : Fin 2 → ℕ} {h : ∀ a, off a + S1x128.size a ≤ S100x128.size a} {g : ℕ} (hoff : off = ![g, 0])
    (l : S100x128.Idx → Elt F .i32) (x : S128.Idx) : (listW off h).view.read (Elt F) l x = l (lx g (x 0).val) :=
  ((View.read_apply _ _).trans (cast_eq _ _)).trans (congrArg l (list_emb hoff x))

/-- What a gather by list row `g` leaves in its slot: the rows the list names. -/
theorem gather_value (b : Fin 2) {off : Fin 2 → ℕ} {h : ∀ a, off a + S1x128.size a ≤ S100x128.size a} {g : ℕ} (hoff : off = ![g, 0])
    {hg : S50000x128.Gathers 0 S128x128} {hn : S128.numel = S128x128.size hg.axis'} (X : S50000x128.Idx → Elt F .f32) (l : S100x128.Idx → Elt F .i32)
    (hin : ∀ x, ((listW off h).view.read (Elt F) l x).toNat < S50000x128.size hg.axis) (fd : S2x128x128.Idx → Elt F .f32) :
    ∀ x ∈ slotSet b, (slotV b).view.write (Elt F) fd
      (SparseCore.gatherPayload hg ((featW).view.read (Elt F) X) (SparseCore.rows ((listW off h).view.read (Elt F) l) hn hin)) Finset.univ x = gath X l g x := by
  intro x hx
  rw [← slot_set] at hx
  obtain ⟨y, -, rfl⟩ := Finset.mem_map.1 hx
  refine ((View.write_emb_of_mem (v := (slotV b).view) fd _ (Finset.mem_univ y)).trans (cast_eq _ _)).trans ?_
  have y0 : (y 0).val < 128 := (y 0).isLt
  have y1 : (y 1).val < 128 := (y 1).isLt
  rw [slot_emb]
  unfold SparseCore.gatherPayload gath
  refine ((View.read_apply _ _).trans (cast_eq _ _)).trans ?_
  refine congrArg X ((feat_emb _).trans ?_)
  have hk : ∀ k : Fin (S128x128.size hg.axis'), ((SparseCore.rows ((listW off h).view.read (Elt F) l) hn hin) k).val = (l (lx g k.val)).toNat := by
    intro k
    show ((listW off h).view.read (Elt F) l (S128.rowMajor.symm (k.cast hn.symm))).toNat = _
    rw [list_read hoff]
    have e := Shape.rowMajor_val_one (S128.rowMajor.symm (k.cast hn.symm))
    rw [Equiv.apply_symm_apply] at e
    rw [← e]; rfl
  funext a
  refine Fin.ext ?_
  match a with
  | 0 =>
    have e0 := congrArg Fin.val (Shape.Gathers.idx_axis hg (SparseCore.rows ((listW off h).view.read (Elt F) l) hn hin) y)
    have e1 := hk (y hg.axis')
    have lt : (SparseCore.rows ((listW off h).view.read (Elt F) l) hn hin (y hg.axis')).val < 50000 :=
      (SparseCore.rows ((listW off h).view.read (Elt F) l) hn hin (y hg.axis')).isLt
    rw [e1] at e0 lt
    refine e0.trans ?_
    show (l (lx g (y 0).val)).toNat = (l (lx g ((y 0).val % 128))).toNat % 50000
    rw [Nat.mod_eq_of_lt y0]
    exact (Nat.mod_eq_of_lt lt).symm
  | 1 =>
    refine (Shape.Gathers.idx_of_ne hg _ y 1 (by decide)).trans ?_
    show (y 1).val = (y 1).val % 128 % 128
    omega

theorem out_emb (L : grid0.Coords) (t : Fin k0_t1_loop.trips) (r : Fin 2) (z : S8x128.Idx) :
    (((outW L t r).view.emb z : S25600x128.Idx) 0).val = 800 * wid L + 8 * (2 * t.val + r.val) + (z 0).val ∧ (((outW L t r).view.emb z : S25600x128.Idx) 1).val = (z 1).val := by
  have e0 : k0_off2 L t (BitVec.ofNat 32 r.val) 0 = 1600 * (L 1).val + 800 * (L 0).val + 16 * t.val + 8 * r.val := congrFun (k0_off2_eq L t r) 0
  have e1 : k0_off2 L t (BitVec.ofNat 32 r.val) 1 = 0 := congrFun (k0_off2_eq L t r) 1
  constructor
  · show k0_off2 L t (BitVec.ofNat 32 r.val) 0 + 1 * (z 0).val = 800 * (2 * (L 1).val + (L 0).val) + 8 * (2 * t.val + r.val) + (z 0).val
    omega
  · show k0_off2 L t (BitVec.ofNat 32 r.val) 1 + 1 * (z 1).val = (z 1).val
    omega

theorem trip_lt (t : Fin k0_t1_loop.trips) : t.val < 50 := lt_of_lt_of_le t.isLt k0_t1_abs.2.1

theorem out_subset (L : grid0.Coords) (t : Fin k0_t1_loop.trips) (r : Fin 2) : (outW L t r).view.set ⊆ outSet (wid L) := by
  intro y hy
  obtain ⟨z, -, rfl⟩ := Finset.mem_map.1 hy
  refine Finset.mem_filter.2 ⟨Finset.mem_univ _, ?_⟩
  have h := (out_emb L t r z).1
  have z0 : (z 0).val < 8 := (z 0).isLt
  have ht := trip_lt t
  have hr := r.isLt
  omega

/-- The first `n` chunks of task `w`'s rows of the output are the pooled ones. -/
def OutDone (X : S50000x128.Idx → Elt F .f32) (I : S32x100x128.Idx → Elt F .i32) (w n : ℕ) (f : S25600x128.Idx → Elt F .f32) : Prop :=
  ∀ y ∈ outSet w, (y 0).val % 800 / 8 < n → f y = spec X I y

/-- A chunk's eight rows copied out: one more chunk done. -/
theorem out_step {X : S50000x128.Idx → Elt F .f32} {I : S32x100x128.Idx → Elt F .i32} (L : grid0.Coords) (t : Fin k0_t1_loop.trips) (r b : Fin 2)
    {f : S25600x128.Idx → Elt F .f32} {a : S8x128.Idx → Elt F .f32} (hf : OutDone X I (wid L) (2 * t.val + r.val) f)
    (ha : Done (gath X (lst I (wid L)) (2 * t.val + r.val)) b 64 a) :
    OutDone X I (wid L) (2 * t.val + r.val + 1) ((outW L t r).view.write (Elt F) f a Finset.univ) := by
  have ht := trip_lt t
  have hr := r.isLt
  intro y hy hlt
  by_cases hm : y ∈ (outW L t r).view.set
  · obtain ⟨z, -, rfl⟩ := Finset.mem_map.1 hm
    refine ((View.write_emb_of_mem (v := (outW L t r).view) f a (Finset.mem_univ z)).trans (cast_eq _ _)).trans ?_
    exact done_spec (wid_lt L) (by omega) ha z _ (out_emb L t r z).1 (out_emb L t r z).2
  · refine (View.write_of_not_mem _ _ _ hm).trans (hf y hy ?_)
    have hw : (y 0).val / 800 = wid L := (Finset.mem_filter.1 hy).2
    by_contra hge
    refine hm ?_
    have y1 : (y 1).val < 128 := (y 1).isLt
    let z : S8x128.Idx := fun a => match a with
      | 0 => ⟨(y 0).val % 8, Nat.mod_lt _ (by decide)⟩
      | 1 => ⟨(y 1).val, y1⟩
    have e := out_emb L t r z
    have hz : (outW L t r).view.emb z = y := by
      funext a
      refine Fin.ext ?_
      match a with
      | 0 =>
        refine e.1.trans ?_
        show 800 * wid L + 8 * (2 * t.val + r.val) + (y 0).val % 8 = (y 0).val
        omega
      | 1 => exact e.2
    rw [← hz]; exact View.emb_mem_set _ _

end Cert.KernelIdeal.Pool

end
-- ==== Proof.PoolIdeal.Copies.lean ====
/-
  The copies of a trip, each a step from what the tile holds before it to what it holds after: a gather issued into a
  slot, the wait for it, the copy of the pooled rows to the output, the wait for it.
-/
module

public import proofs.«01_k».proof.Proof.PoolIdeal.Windows

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

section Frame
variable {c : Thread nD τ}

/-- What a flight's holder keeps beside it can ride along: delivered with the rest at the wait. -/
theorem flight_frame {sm : SemLoc sig} {N : ℕ} {D R : sProp (MT nD τ sig (HIx 1) (Elt F) ℕ UU ℕ)} :
    iprop(Transfers.Flight countersEmb c sm (default : HIx 1) N D ∗ R) ⊢ (Transfers.Flight countersEmb c sm (default : HIx 1) N iprop(D ∗ R) : sProp 𝕄) := by
  unfold Transfers.Flight
  iintro ⟨⟨⟨%T, HT, %hlow, %hpeek⟩, Hc⟩, HR⟩
  isplitr [Hc]
  · iexists iprop(T ∗ R)
    isplitl [HT HR]; · isplitl [HT] <;> iassumption
    isplit
    · ipureintro
      intro K
      iintro ⟨⟨HT, HR⟩, HK⟩
      iapply (hlow K)
      isplitl [HT]; · iexact HT
      iintro ⟨Hv, HD⟩
      iapply HK
      isplitl [Hv]; · iexact Hv
      isplitl [HD] <;> iassumption
    · ipureintro
      intro K
      iintro ⟨⟨HT, HR⟩, HK⟩
      iapply (hpeek K)
      isplitl [HT]; · iexact HT
      iintro HT
      iapply HK
      isplitl [HT] <;> iassumption
  · iexact Hc

end Frame

variable (d : Dev nD) (L : grid0.Coords) (X : S50000x128.Idx → Elt F .f32) (I : S32x100x128.Idx → Elt F .i32)
variable (O : CellTallies nD τ sig (HIx 1)) (W : Waits sig (HIx 1))

/-- What a gather into slot `b` holds: the slot at `R`, a share of the features, a share of the index list. -/
def Own (q h : PosShare TreeShare) (b : Fin 2) (R : S2x128x128.Idx → Elt F .f32) : sProp 𝕄 :=
  iprop(((rowsV).view.loc (tile d L) ↦[slotSet b]{fullShare} R) ∗ ((featV).view.loc (tile d L) ↦{q} X) ∗ ((listV).view.loc (tile d L) ↦{h} lst I (wid L)))

/-- The gather by list row `g` into slot `b`, on its way. -/
def Fly (q h : PosShare TreeShare) (sem : DmaSem sig) (b : Fin 2) (g : ℕ) : sProp 𝕄 :=
  Transfers.Flight countersEmb (tile d L) (.dma sem) (default : HIx 1) (slotV b).view.dmaCredit (Own d L X I q h b (gath X (lst I (wid L)) g))

/-- No gather on its way into slot `b`: what it would hold, and its semaphore at zero. -/
def Idle (q h : PosShare TreeShare) (sem : DmaSem sig) (b : Fin 2) : sProp 𝕄 :=
  iprop((∃ R, Own d L X I q h b R) ∗ semVal (tile d L, .dma sem) 0)

/-- Slot `b` before chunk `g` is pooled: the gather of the chunk on its way, or none if there is no such chunk. -/
def Slot (q h : PosShare TreeShare) (sem : DmaSem sig) (b : Fin 2) (g : ℕ) : sProp 𝕄 :=
  if g < 100 then Fly d L X I q h sem b g else Idle d L X I q h sem b

/-- The pooled rows' buffer, at anything. -/
def Acc : sProp 𝕄 := iprop(∃ f : S8x128.Idx → Elt F .f32, (accV).view.loc (tile d L) ↦{fullShare} f)

/-- The task's rows of the output, the first `n` chunks of them done. -/
def Outs (n : ℕ) : sProp 𝕄 :=
  iprop(∃ f : S25600x128.Idx → Elt F .f32, ⌜OutDone X I (wid L) n f⌝ ∗ ((outV).view.loc (tile d L) ↦[outSet (wid L)]{fullShare} f))

/-- What the tile owes, its waits so far, and that it may wait. -/
def Ow : sProp 𝕄 :=
  iprop(∃ W', ⌜∀ p ∈ W', p ∈ W ∨ p.2 = none⌝ ∗ owes (tile d L) O W' ∗ Transfers.MayWaits (tile d L) (default : HIx 1) O)

/-- Every word of the task's list is a row of the features. -/
def ListOk : Prop := ∀ x, (lst I (wid L) x).toNat < 50000

variable {d L X I O W}

theorem own_split {q h : PosShare TreeShare} {b : Fin 2} {R : S2x128x128.Idx → Elt F .f32} :
    Own d L X I q h b R ⊢ iprop(((rowsV).view.loc (tile d L) ↦[slotSet b]{fullShare} R) ∗ ((featV).view.loc (tile d L) ↦{q} X) ∗ ((listV).view.loc (tile d L) ↦{h} lst I (wid L))) := by
  unfold Own; exact Entails.of_eq rfl

theorem ow_open : Ow d L O W ⊢ (iprop(∃ W', ⌜∀ p ∈ W', p ∈ W ∨ p.2 = none⌝ ∗ owes (tile d L) O W' ∗ Transfers.MayWaits (tile d L) (default : HIx 1) O) : sProp 𝕄) := by
  unfold Ow; exact Entails.of_eq rfl

set_option maxHeartbeats 1000000 in
/-- A gather issued into a slot nothing is on its way to. -/
theorem s_gather (hok : ListOk (F := F) L I) {q h : PosShare TreeShare} {sem : DmaSem sig} (b : Fin 2) {off : Fin 2 → ℕ} {ho : ∀ a, off a + S1x128.size a ≤ S100x128.size a}
    {g : ℕ} (hoff : off = ![g, 0]) (hg : g < 100) {Oth : sProp 𝕄} {x1 x2 x3 x4 x5} {Q : PUnit → sProp 𝕄}
    (k : iprop(Slot d L X I q h sem b g ∗ Oth) ⊢ Q ⟨⟩) :
    iprop(Idle d L X I q h sem b ∗ Oth)
      ⊢ WP d L (SparseCore.enqueueIndirectGather x1 featW (slotV b) gathers_S50000x128_S128x128 (listW off ho) x2 sem x3 x4 x5) Q := by
  have hin : ∀ x, ((listW off ho).view.read (Elt F) (lst I (wid L)) x).toNat < S50000x128.size gathers_S50000x128_S128x128.axis := by
    intro x; rw [list_read hoff]; exact hok _
  have hN : ∀ b : Fin 2, ∀ hh : S50000x128.Gathers 0 S128x128, ∑ j, ((slotV b).slice (S128x128.rowRect hh.axis' j) (S128x128.stride_rowRect hh.axis' j)).view.dmaCredit
      = (slotV b).view.dmaCredit := by decide
  unfold Slot at k
  rw [if_pos hg] at k
  unfold Fly at k
  unfold Idle
  rw [WP_eq]
  show _ ⊢ wp frame _ Set.univ (SparseCore.enqueueIndirectGather x1 featW (slotV b) gathers_S50000x128_S128x128 (listW off ho) x2 sem x3 x4 x5 >>= Prog.ret) Q
  iintro ⟨⟨⟨%R, HO⟩, Hv⟩, Hoth⟩
  ihave HO' := own_split $$ HO
  icases HO' with ⟨Hr, Hx, Hl⟩
  ihave Hl' := (pointsTo_split_subset (q := h) (f := lst I (wid L)) (S := Finset.univ) (Finset.subset_univ (listW off ho).view.set)).1 $$ Hl
  icases Hl' with ⟨Hl, Hrest⟩
  ihave Hx' := (Entails.of_eq (show ((featV).view.loc (tile d L) ↦{q} X : sProp 𝕄) = (featW).view.loc (tile d L) ↦[(featW).view.set]{q} X by rw [feat_set])) $$ Hx
  ihave Hr' := (Entails.of_eq (show ((rowsV).view.loc (tile d L) ↦[slotSet b]{fullShare} R : sProp 𝕄) = (slotV b).view.loc (tile d L) ↦[(slotV b).view.set]{fullShare} R by rw [slot_set])) $$ Hr
  iapply (SparseCore.wp_indirectGatherLocal countersEmb 𝒱₀ (tile d L) none (hg := gathers_S50000x128_S128x128) (default : HIx 1)
      (slotV b).view.dmaCredit (hN b _) (by decide) hin) $$ [Hx' Hr' Hl Hv]
  · isplitl [Hx']; · iexact Hx'
    isplitl [Hr']; · iexact Hr'
    isplitl [Hl]; · iexact Hl
    iexact Hv
  iintro Hf
  ihave Hf' := flight_frame $$ [Hf Hrest]
  · isplitl [Hf]; · iexact Hf
    iexact Hrest
  iapply (le_wp_ret frame _ Set.univ _ Q)
  iapply k
  isplitl [Hf']
  · iapply (Transfers.Flight_mono countersEmb (tile d L) ?_) $$ Hf'
    unfold Own
    iintro ⟨⟨Hr, Hx, Hl⟩, Hrest⟩
    isplitl [Hr]
    · iapply (Entails.of_eq (show ((slotV b).view.loc (tile d L) ↦[(slotV b).view.set]{fullShare} _ : sProp 𝕄) = (rowsV).view.loc (tile d L) ↦[slotSet b]{fullShare} gath X (lst I (wid L)) g from by
        rw [slot_set]; exact pointsTo_congr (gather_value b hoff X (lst I (wid L)) hin R))) $$ Hr
    isplitl [Hx]
    · iapply (Entails.of_eq (show ((featV).view.loc (tile d L) ↦{q} X : sProp 𝕄) = (featW).view.loc (tile d L) ↦[(featW).view.set]{q} X by rw [feat_set]).symm) $$ Hx
    · iapply (pointsTo_split_subset (q := h) (f := lst I (wid L)) (S := Finset.univ) (Finset.subset_univ (listW off ho).view.set)).2
      isplitl [Hl] <;> iassumption
  iexact Hoth

/-- The wait for a gather: the slot holds the rows its list row names. -/
theorem s_wait {q h : PosShare TreeShare} {sem : DmaSem sig} (b : Fin 2) {g : ℕ} (hg : g < 100) {Oth : sProp 𝕄} {x1 x2} {Q : PUnit → sProp 𝕄}
    (k : PoolAt d L (gath X (lst I (wid L)) g) b iprop(((featV).view.loc (tile d L) ↦{q} X) ∗ ((listV).view.loc (tile d L) ↦{h} lst I (wid L))
      ∗ semVal (tile d L, .dma sem) 0 ∗ Ow d L O W ∗ Oth) 0 ⊢ Q ⟨⟩) :
    iprop(Slot d L X I q h sem b g ∗ Acc d L ∗ Ow d L O W ∗ Oth) ⊢ WP d L (SparseCore.waitIndirectGather sem featW (slotV b) x1 x2) Q := by
  unfold PoolAt at k
  unfold Slot Fly Acc
  rw [if_pos hg, WP_eq]
  iintro ⟨Hf, ⟨%f, Ha⟩, How, Hoth⟩
  ihave How' := ow_open $$ How
  icases How' with ⟨%W', %hW', HO, #Hmw⟩
  iapply (Transfers.wp_waitLocalO countersEmb 𝒱₀ (tile d L) none (default : HIx 1) (rfl : (slotV b).view.dmaCredit = _)) $$ [Hf HO]
  · isplitl [Hf]; · iexact Hf
    isplitl [HO]; · iexact HO
    iapply (Transfers.MayWaits.elim (SemLoc.dma sem)) $$ Hmw
  iintro ⟨HD, Hv, HO⟩
  ihave HD' := own_split $$ HD
  icases HD' with ⟨Hr, Hx, Hl⟩
  iapply (le_wp_ret frame _ Set.univ _ Q)
  iapply k
  isplitl [Hr]; · iexact Hr
  isplitl [Ha]
  · iexists f; isplitr; · ipureintro; intro n hn; exact absurd hn (Nat.not_lt_zero _)
    iexact Ha
  isplitl [Hx]; · iexact Hx
  isplitl [Hl]; · iexact Hl
  isplitl [Hv]; · iexact Hv
  isplitr [Hoth]
  · unfold Ow
    iexists _; isplitr
    swap
    · isplitl [HO]; · iexact HO
      iexact Hmw
    ipureintro; intro p hp
    rcases Finset.mem_insert.mp hp with hp | hp
    · exact .inr (hp ▸ rfl)
    · exact hW' p hp
  iexact Hoth

/-- The copy of a chunk's pooled rows, on its way to the output. -/
def Out (X : S50000x128.Idx → Elt F .f32) (I : S32x100x128.Idx → Elt F .i32) (d : Dev nD) (L : grid0.Coords) (sem : DmaSem sig) (t : Fin k0_t1_loop.trips) (r : Fin 2) : sProp 𝕄 :=
  Transfers.Flight countersEmb (tile d L) (.dma sem) (default : HIx 1) (outW L t r).view.dmaCredit iprop(Outs d L X I (2 * t.val + r.val + 1) ∗ Acc d L)

/-- The pooled rows' copy to the output, issued. -/
theorem s_copy {sem : DmaSem sig} {t : Fin k0_t1_loop.trips} {r b : Fin 2} {A : sProp 𝕄} {Oth : sProp 𝕄} {x1 x2 x3} {Q : PUnit → sProp 𝕄}
    (hA : A ⊢ iprop(Outs d L X I (2 * t.val + r.val) ∗ semVal (tile d L, .dma sem) 0 ∗ Oth))
    (k : iprop((∃ R, (rowsV).view.loc (tile d L) ↦[slotSet b]{fullShare} R) ∗ Out X I d L sem t r ∗ Oth) ⊢ Q ⟨⟩) :
    PoolAt d L (gath X (lst I (wid L)) (2 * t.val + r.val)) b A 64
      ⊢ WP d L (Prog.lift (.enqueueDma accV (.here (outW L t r)) (.dma sem) x1 x2 x3)) Q := by
  unfold PoolAt
  rw [WP_eq]
  unfold Out at k
  iintro ⟨Hr, ⟨%a, %ha, Ha⟩, HA⟩
  ihave HA' := hA $$ HA
  unfold Outs
  icases HA' with ⟨⟨%f, %hf, Ho⟩, Hv, Hoth⟩
  ihave Ha' := (Entails.of_eq (show ((accV).view.loc (tile d L) ↦{fullShare} a : sProp 𝕄) = (accV).view.loc (tile d L) ↦[(accV).view.set]{fullShare} a by rw [show (accV).view.set = Finset.univ from View.set_whole _])) $$ Ha
  iapply (Transfers.wp_dmaLocal countersEmb 𝒱₀ (tile d L) none (dst := outW L t r) (Sd := outSet (wid L)) (fd := f) (default : HIx 1) (outW L t r).view.dmaCredit rfl
      (View.dmaCredit_pos _ (by decide)) (out_subset L t r)) $$ [Ha' Ho Hv]
  · isplitl [Ha']; · iexact Ha'
    isplitl [Ho]; · iexact Ho
    iexact Hv
  iintro Hf
  iapply (le_wp_ret frame _ Set.univ _ Q)
  iapply k
  isplitl [Hr]; · iexists _; iexact Hr
  isplitl [Hf]
  · iapply (Transfers.Flight_mono countersEmb (tile d L) ?_) $$ Hf
    unfold Outs Acc
    iintro ⟨Ho, Ha⟩
    isplitl [Ho]
    · iexists _
      isplitr
      swap; · iexact Ho
      ipureintro
      exact out_step L t r b hf ha
    iexists a
    iapply (Entails.of_eq (show ((accV).view.loc (tile d L) ↦{fullShare} a : sProp 𝕄) = (accV).view.loc (tile d L) ↦[(accV).view.set]{fullShare} a by rw [show (accV).view.set = Finset.univ from View.set_whole _]).symm) $$ Ha
  iexact Hoth

/-- The wait for it. -/
theorem s_done {sem : DmaSem sig} {t : Fin k0_t1_loop.trips} {r : Fin 2} {A Oth : sProp 𝕄} {x1 x2} {Q : PUnit → sProp 𝕄}
    (hA : A ⊢ iprop(Out X I d L sem t r ∗ Ow d L O W ∗ Oth))
    (k : iprop(Outs d L X I (2 * t.val + r.val + 1) ∗ Acc d L ∗ semVal (tile d L, .dma sem) 0 ∗ Ow d L O W ∗ Oth) ⊢ Q ⟨⟩) :
    A ⊢ WP d L (Prog.lift (.waitDma2 sem accV (outW L t r) x1 x2)) Q := by
  refine hA.trans ?_
  rw [WP_eq]
  unfold Out
  iintro ⟨Hf, How, Hoth⟩
  ihave How' := ow_open $$ How
  icases How' with ⟨%W', %hW', HO, #Hmw⟩
  iapply (Transfers.wp_waitLocalO countersEmb 𝒱₀ (tile d L) none (default : HIx 1) (rfl : (outW L t r).view.dmaCredit = _)) $$ [Hf HO]
  · isplitl [Hf]; · iexact Hf
    isplitl [HO]; · iexact HO
    iapply (Transfers.MayWaits.elim (SemLoc.dma sem)) $$ Hmw
  iintro ⟨⟨Ho, Ha⟩, Hv, HO⟩
  iapply (le_wp_ret frame _ Set.univ _ Q)
  iapply k
  isplitl [Ho]; · iexact Ho
  isplitl [Ha]; · iexact Ha
  isplitl [Hv]; · iexact Hv
  isplitr [Hoth]
  · unfold Ow
    iexists _; isplitr
    swap
    · isplitl [HO]; · iexact HO
      iexact Hmw
    ipureintro; intro p hp
    rcases Finset.mem_insert.mp hp with hp | hp
    · exact .inr (hp ▸ rfl)
    · exact hW' p hp
  iexact Hoth

end Cert.KernelIdeal.Pool

end
-- ==== Proof.PoolIdeal.WalkA.lean ====
module

public import proofs.«01_k».proof.Proof.PoolIdeal.Rules

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable {d : Dev nD} {L : grid0.Coords} {R R' : S2x128x128.Idx → Elt F .f32} {Fr Fr' A B C D B' C' E : sProp (MT nD τ sig (HIx 1) (Elt F) ℕ UU ℕ)}

set_option maxRecDepth 100000 in
set_option maxHeartbeats 4000000 in
/-- The first fifth of a trip: the wait for slot 0's rows, and the pooling of its first 26 vectors and 13 loads of the next. -/
theorem walk1 {t : Fin k0_t1_loop.trips} {c0 c1 : BitVec 32} {Q} (hw0 : ∀ {x1 x2} {Q : PUnit → sProp (MT nD τ sig (HIx 1) (Elt F) ℕ UU ℕ)}, (PoolAt d L R 0 Fr 0 ⊢ Q ⟨⟩) → A ⊢ WP d L (SparseCore.waitIndirectGather cc0_scratch3.sem featW slot0V x1 x2) Q)
    (h : ∀ a b, PoolAt d L R 0 Fr 26 ⊢ Q ⟨a, b, lane (ld R 0 48 32), lane (ld R 0 49 32), lane (ld R 0 50 32), lane (ld R 0 51 32), lane (ld R 0 52 32), lane (ld R 0 53 32), lane (ld R 0 54 32), lane (ld R 0 55 32), lane (ld R 0 56 32), lane (ld R 0 57 32), lane (ld R 0 58 32), lane (ld R 0 59 32), lane (ld R 0 60 32)⟩) :
    A ⊢ WP d L (k0_part288 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2 c0 c1 t) Q := by
  apply w_bind
  apply w_bind
  apply hw0
  repeat first | apply w_bind | apply w_pure | (apply w_load6; rfl) | (apply w_load7; intro _) | (refine w_store rfl (by decide) (by decide) (by decide) ?_)
  exact h _ _

set_option maxRecDepth 100000 in
set_option maxHeartbeats 4000000 in
/-- The second fifth: slot 0's vectors 26 to 53. -/
theorem walk2 {Q} (h : PoolAt d L R 0 Fr 53 ⊢ Q ⟨lane (ld R 0 96 80), lane (ld R 0 97 80), lane (ld R 0 98 80), lane (ld R 0 99 80), lane (ld R 0 100 80), lane (ld R 0 101 80), lane (ld R 0 102 80), lane (ld R 0 103 80), lane (ld R 0 104 80), lane (ld R 0 105 80), lane (ld R 0 106 80), 0#32⟩) :
    PoolAt d L R 0 Fr 26 ⊢ WP d L (k0_part289 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2
      (lane (ld R 0 48 32)) (lane (ld R 0 49 32)) (lane (ld R 0 50 32)) (lane (ld R 0 51 32)) (lane (ld R 0 52 32)) (lane (ld R 0 53 32)) (lane (ld R 0 54 32)) (lane (ld R 0 55 32)) (lane (ld R 0 56 32)) (lane (ld R 0 57 32)) (lane (ld R 0 58 32)) (lane (ld R 0 59 32)) (lane (ld R 0 60 32))) Q := by
  repeat first | apply w_bind | apply w_pure | (apply w_load6; rfl) | (apply w_load7; intro _) | (refine w_store rfl (by decide) (by decide) (by decide) ?_)
  exact h

end Cert.KernelIdeal.Pool

end
-- ==== Proof.PoolIdeal.WalkB.lean ====
module

public import proofs.«01_k».proof.Proof.PoolIdeal.Rules

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable {d : Dev nD} {L : grid0.Coords} {R R' : S2x128x128.Idx → Elt F .f32} {Fr Fr' A B C D B' C' E : sProp (MT nD τ sig (HIx 1) (Elt F) ℕ UU ℕ)}

set_option maxRecDepth 100000 in
set_option maxHeartbeats 4000000 in
/-- The last store of slot 0, the copy out of its chunk and the copy's wait, the next gather into slot 0, the wait for slot 1's
rows, and the first load of them. -/
theorem walkMid {t : Fin k0_t1_loop.trips} {v2 v15 v16 : BitVec 32} {Q}
    (hd0 : ∀ {x1 x2 x3} {Q : PUnit → sProp (MT nD τ sig (HIx 1) (Elt F) ℕ UU ℕ)}, (B ⊢ Q ⟨⟩) → PoolAt d L R 0 Fr 64 ⊢ WP d L (Prog.lift (.enqueueDma accV (.here (outW L t 0)) (.dma cc0_scoped1.sem) x1 x2 x3)) Q)
    (hx0 : ∀ {x1 x2} {Q : PUnit → sProp (MT nD τ sig (HIx 1) (Elt F) ℕ UU ℕ)}, (C ⊢ Q ⟨⟩) → B ⊢ WP d L (Prog.lift (.waitDma2 cc0_scoped1.sem accV (outW L t 0) x1 x2)) Q)
    (hg0 : ∀ h {x1 x2 x3 x4 x5} {Q : PUnit → sProp (MT nD τ sig (HIx 1) (Elt F) ℕ UU ℕ)}, (D ⊢ Q ⟨⟩) → C ⊢ WP d L (SparseCore.enqueueIndirectGather x1 featW slot0V gathers_S50000x128_S128x128 (listW (k0_off3 t) (k0_off3_inb t h)) x2 cc0_scratch3.sem x3 x4 x5) Q)
    (hn0 : k0_cond1 t ≠ 1#1 → C ⊢ D)
    (hw1 : ∀ {x1 x2} {Q : PUnit → sProp (MT nD τ sig (HIx 1) (Elt F) ℕ UU ℕ)}, (PoolAt d L R' 1 Fr' 0 ⊢ Q ⟨⟩) → D ⊢ WP d L (SparseCore.waitIndirectGather cc0_scratch4.sem featW slot1V x1 x2) Q)
    (h : ∀ a, PoolAt d L R' 1 Fr' 0 ⊢ Q ⟨a, lane (ld R' 1 0 0), 1#32⟩) :
    PoolAt d L R 0 Fr 63 ⊢ WP d L (k0_part144 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2 v2 t v15 v16
      (lane (ld R 0 124 112)) (lane (ld R 0 125 112)) (lane (ld R 0 126 112)) (lane (ld R 0 127 112)) (maximumf (lane (ld R 0 112 112)) (lane (ld R 0 113 112))) (maximumf (lane (ld R 0 114 112)) (lane (ld R 0 115 112))) (maximumf (lane (ld R 0 116 112)) (lane (ld R 0 117 112))) (maximumf (lane (ld R 0 118 112)) (lane (ld R 0 119 112))) (maximumf (lane (ld R 0 120 112)) (lane (ld R 0 121 112))) (maximumf (lane (ld R 0 122 112)) (lane (ld R 0 123 112)))) Q := by
  repeat first | apply w_bind | apply w_pure | (apply w_load6; rfl) | (apply w_load7; intro _) | (refine w_store rfl (by decide) (by decide) (by decide) ?_)
  apply hd0
  apply w_bind
  apply hx0
  apply w_dite
  · intro hc
    apply w_bind
    apply hg0 hc
    apply w_bind
    apply hw1
    repeat first | apply w_bind | apply w_pure | (apply w_load6; rfl) | (apply w_load7; intro _) | (refine w_store rfl (by decide) (by decide) (by decide) ?_)
    exact h _
  · intro hc
    refine (hn0 hc).trans ?_
    apply w_bind
    apply hw1
    repeat first | apply w_bind | apply w_pure | (apply w_load6; rfl) | (apply w_load7; intro _) | (refine w_store rfl (by decide) (by decide) (by decide) ?_)
    exact h _

attribute [local irreducible] k0_part144

set_option maxRecDepth 100000 in
set_option maxHeartbeats 4000000 in
/-- The middle fifth: the rest of slot 0's vectors, their copy out and its wait, the next gather into slot 0, the wait for
slot 1's rows, and slot 1's first vectors. -/
theorem walk3 {t : Fin k0_t1_loop.trips} {v2 v15 v16 : BitVec 32} {Q}
    (hd0 : ∀ {x1 x2 x3} {Q : PUnit → sProp (MT nD τ sig (HIx 1) (Elt F) ℕ UU ℕ)}, (B ⊢ Q ⟨⟩) → PoolAt d L R 0 Fr 64 ⊢ WP d L (Prog.lift (.enqueueDma accV (.here (outW L t 0)) (.dma cc0_scoped1.sem) x1 x2 x3)) Q)
    (hx0 : ∀ {x1 x2} {Q : PUnit → sProp (MT nD τ sig (HIx 1) (Elt F) ℕ UU ℕ)}, (C ⊢ Q ⟨⟩) → B ⊢ WP d L (Prog.lift (.waitDma2 cc0_scoped1.sem accV (outW L t 0) x1 x2)) Q)
    (hg0 : ∀ h {x1 x2 x3 x4 x5} {Q : PUnit → sProp (MT nD τ sig (HIx 1) (Elt F) ℕ UU ℕ)}, (D ⊢ Q ⟨⟩) → C ⊢ WP d L (SparseCore.enqueueIndirectGather x1 featW slot0V gathers_S50000x128_S128x128 (listW (k0_off3 t) (k0_off3_inb t h)) x2 cc0_scratch3.sem x3 x4 x5) Q)
    (hn0 : k0_cond1 t ≠ 1#1 → C ⊢ D)
    (hw1 : ∀ {x1 x2} {Q : PUnit → sProp (MT nD τ sig (HIx 1) (Elt F) ℕ UU ℕ)}, (PoolAt d L R' 1 Fr' 0 ⊢ Q ⟨⟩) → D ⊢ WP d L (SparseCore.waitIndirectGather cc0_scratch4.sem featW slot1V x1 x2) Q)
    (h : ∀ a, PoolAt d L R' 1 Fr' 16 ⊢ Q ⟨a, lane (ld R' 1 32 0), lane (ld R' 1 33 0), lane (ld R' 1 34 0), 35#32⟩) :
    PoolAt d L R 0 Fr 53 ⊢ WP d L (k0_part290 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2 v2 t v15 v16
      (lane (ld R 0 96 80)) (lane (ld R 0 97 80)) (lane (ld R 0 98 80)) (lane (ld R 0 99 80)) (lane (ld R 0 100 80)) (lane (ld R 0 101 80)) (lane (ld R 0 102 80)) (lane (ld R 0 103 80)) (lane (ld R 0 104 80)) (lane (ld R 0 105 80)) (lane (ld R 0 106 80)) 0#32) Q := by
  repeat first | apply w_bind | apply w_pure | (apply w_load6; rfl) | (apply w_load7; intro _) | (refine w_store rfl (by decide) (by decide) (by decide) ?_)
  apply walkMid hd0 hx0 hg0 hn0 hw1
  intro a
  repeat first | apply w_bind | apply w_pure | (apply w_load6; rfl) | (apply w_load7; intro _) | (refine w_store rfl (by decide) (by decide) (by decide) ?_)
  exact h _

end Cert.KernelIdeal.Pool

end
-- ==== Proof.PoolIdeal.WalkC.lean ====
module

public import proofs.«01_k».proof.Proof.PoolIdeal.Rules

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable {d : Dev nD} {L : grid0.Coords} {R R' : S2x128x128.Idx → Elt F .f32} {Fr Fr' A B C D B' C' E : sProp (MT nD τ sig (HIx 1) (Elt F) ℕ UU ℕ)}

set_option maxRecDepth 100000 in
set_option maxHeartbeats 4000000 in
/-- The fourth fifth: slot 1's vectors 16 to 43. -/
theorem walk4 {Q} (h : PoolAt d L R' 1 Fr' 43 ⊢ Q (ld R' 1 80 48)) :
    PoolAt d L R' 1 Fr' 16 ⊢ WP d L (k0_part291 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2
      (lane (ld R' 1 32 0)) (lane (ld R' 1 33 0)) (lane (ld R' 1 34 0)) 35#32) Q := by
  repeat first | apply w_bind | apply w_pure | (apply w_load6; rfl) | (apply w_load7; intro _) | (refine w_store rfl (by decide) (by decide) (by decide) ?_)
  exact h

end Cert.KernelIdeal.Pool

end
-- ==== Proof.PoolIdeal.WalkD.lean ====
module

public import proofs.«01_k».proof.Proof.PoolIdeal.WalkA
public import proofs.«01_k».proof.Proof.PoolIdeal.WalkB
public import proofs.«01_k».proof.Proof.PoolIdeal.WalkC

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable {d : Dev nD} {L : grid0.Coords} {R R' : S2x128x128.Idx → Elt F .f32} {Fr Fr' A B C D B' C' E : sProp (MT nD τ sig (HIx 1) (Elt F) ℕ UU ℕ)}

attribute [local irreducible] k0_part288 k0_part289 k0_part290 k0_part291

set_option maxRecDepth 100000 in
set_option maxHeartbeats 4000000 in
/-- A whole trip, from the steps of its copies: the gathered rows of slot 0 pooled and copied out, slot 0 gathered again if there is
a chunk left, and the same of slot 1. -/
theorem walkTrip {t : Fin k0_t1_loop.trips} {v2 c0 c1 : BitVec 32} {Q : PUnit → sProp (MT nD τ sig (HIx 1) (Elt F) ℕ UU ℕ)}
    (hw0 : ∀ {x1 x2} {Q : PUnit → sProp (MT nD τ sig (HIx 1) (Elt F) ℕ UU ℕ)}, (PoolAt d L R 0 Fr 0 ⊢ Q ⟨⟩) → A ⊢ WP d L (SparseCore.waitIndirectGather cc0_scratch3.sem featW slot0V x1 x2) Q)
    (hd0 : ∀ {x1 x2 x3} {Q : PUnit → sProp (MT nD τ sig (HIx 1) (Elt F) ℕ UU ℕ)}, (B ⊢ Q ⟨⟩) → PoolAt d L R 0 Fr 64 ⊢ WP d L (Prog.lift (.enqueueDma accV (.here (outW L t 0)) (.dma cc0_scoped1.sem) x1 x2 x3)) Q)
    (hx0 : ∀ {x1 x2} {Q : PUnit → sProp (MT nD τ sig (HIx 1) (Elt F) ℕ UU ℕ)}, (C ⊢ Q ⟨⟩) → B ⊢ WP d L (Prog.lift (.waitDma2 cc0_scoped1.sem accV (outW L t 0) x1 x2)) Q)
    (hg0 : ∀ h {x1 x2 x3 x4 x5} {Q : PUnit → sProp (MT nD τ sig (HIx 1) (Elt F) ℕ UU ℕ)}, (D ⊢ Q ⟨⟩) → C ⊢ WP d L (SparseCore.enqueueIndirectGather x1 featW slot0V gathers_S50000x128_S128x128 (listW (k0_off3 t) (k0_off3_inb t h)) x2 cc0_scratch3.sem x3 x4 x5) Q)
    (hn0 : k0_cond1 t ≠ 1#1 → C ⊢ D)
    (hw1 : ∀ {x1 x2} {Q : PUnit → sProp (MT nD τ sig (HIx 1) (Elt F) ℕ UU ℕ)}, (PoolAt d L R' 1 Fr' 0 ⊢ Q ⟨⟩) → D ⊢ WP d L (SparseCore.waitIndirectGather cc0_scratch4.sem featW slot1V x1 x2) Q)
    (hd1 : ∀ {x1 x2 x3} {Q : PUnit → sProp (MT nD τ sig (HIx 1) (Elt F) ℕ UU ℕ)}, (B' ⊢ Q ⟨⟩) → PoolAt d L R' 1 Fr' 64 ⊢ WP d L (Prog.lift (.enqueueDma accV (.here (outW L t 1)) (.dma cc0_scoped2.sem) x1 x2 x3)) Q)
    (hx1 : ∀ {x1 x2} {Q : PUnit → sProp (MT nD τ sig (HIx 1) (Elt F) ℕ UU ℕ)}, (C' ⊢ Q ⟨⟩) → B' ⊢ WP d L (Prog.lift (.waitDma2 cc0_scoped2.sem accV (outW L t 1) x1 x2)) Q)
    (hg1 : ∀ h {x1 x2 x3 x4 x5} {Q : PUnit → sProp (MT nD τ sig (HIx 1) (Elt F) ℕ UU ℕ)}, (E ⊢ Q ⟨⟩) → C' ⊢ WP d L (SparseCore.enqueueIndirectGather x1 featW slot1V gathers_S50000x128_S128x128 (listW (k0_off4 t) (k0_off4_inb t h)) x2 cc0_scratch4.sem x3 x4 x5) Q)
    (hn1 : k0_cond2 t ≠ 1#1 → C' ⊢ E)
    (h : E ⊢ Q ⟨⟩) :
    A ⊢ WP d L (k0_part292 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2 v2 c0 c1 t) Q := by
  apply w_bind
  apply walk1 hw0
  intro _ _
  apply w_bind
  apply walk2
  apply w_bind
  apply walk3 hd0 hx0 hg0 hn0 hw1
  intro _
  apply w_bind
  apply walk4
  repeat first | apply w_bind | apply w_pure | (apply w_load6; rfl) | (apply w_load7; intro _) | (refine w_store rfl (by decide) (by decide) (by decide) ?_)
  apply hd1
  apply w_pure
  apply w_bind
  apply hx1
  apply w_dite
  · intro hc
    apply w_bind
    apply hg1 hc
    apply w_pure
    exact h
  · intro hc
    refine (hn1 hc).trans ?_
    apply w_pure
    exact h

end Cert.KernelIdeal.Pool

end
-- ==== Proof.PoolIdeal.Trip.lean ====
/-
  One trip of the loop over chunks: from both gathers of the trip on their way and `2 t` chunks done to the next trip's
  gathers on their way and two more chunks done.
-/
module

public import proofs.«01_k».proof.Proof.PoolIdeal.Copies
public import proofs.«01_k».proof.Proof.PoolIdeal.WalkD

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

theorem cond1_iff : ∀ t : Fin k0_t1_loop.trips, k0_cond1 t = 1#1 ↔ 2 * t.val + 2 < 100 := by decide +kernel
theorem cond2_iff : ∀ t : Fin k0_t1_loop.trips, k0_cond2 t = 1#1 ↔ 2 * t.val + 3 < 100 := by decide +kernel

variable (d : Dev nD) (L : grid0.Coords) (X : S50000x128.Idx → Elt F .f32) (I : S32x100x128.Idx → Elt F .i32)
variable (O : CellTallies nD τ sig (HIx 1)) (W : Waits sig (HIx 1)) (q : PosShare TreeShare)

/-- Before chunk `n` is pooled out of slot `b`: the chunk `g` next in that slot, the other resources `Z` untouched. -/
def Pre (q h : PosShare TreeShare) (sem s : DmaSem sig) (b : Fin 2) (g n : ℕ) (Z : sProp 𝕄) : sProp 𝕄 :=
  iprop(Slot d L X I q h sem b g ∗ Acc d L ∗ Ow d L O W ∗ (Outs d L X I n ∗ semVal (tile d L, .dma s) 0 ∗ Z))

/-- While its copy out is on its way. -/
def Mid (q h : PosShare TreeShare) (sem s : DmaSem sig) (b : Fin 2) (t : Fin k0_t1_loop.trips) (r : Fin 2) (Z : sProp 𝕄) : sProp 𝕄 :=
  iprop((∃ R, (rowsV).view.loc (tile d L) ↦[slotSet b]{fullShare} R) ∗ Out X I d L s t r ∗ (((featV).view.loc (tile d L) ↦{q} X) ∗ ((listV).view.loc (tile d L) ↦{h} lst I (wid L))
      ∗ semVal (tile d L, .dma sem) 0 ∗ Ow d L O W ∗ Z))

/-- After it: the slot free. -/
def Post (q h : PosShare TreeShare) (sem s : DmaSem sig) (b : Fin 2) (n : ℕ) (Z : sProp 𝕄) : sProp 𝕄 :=
  iprop(Idle d L X I q h sem b ∗ (Acc d L ∗ Ow d L O W ∗ (Outs d L X I n ∗ semVal (tile d L, .dma s) 0 ∗ Z)))

variable {d L X I O W}

theorem h_wait {q h : PosShare TreeShare} {sem s : DmaSem sig} {b : Fin 2} {g n : ℕ} (hg : g < 100) {Z : sProp 𝕄} {x1 x2} {Q : PUnit → sProp 𝕄}
    (k : PoolAt d L (gath X (lst I (wid L)) g) b iprop(((featV).view.loc (tile d L) ↦{q} X) ∗ ((listV).view.loc (tile d L) ↦{h} lst I (wid L))
      ∗ semVal (tile d L, .dma sem) 0 ∗ Ow d L O W ∗ (Outs d L X I n ∗ semVal (tile d L, .dma s) 0 ∗ Z)) 0 ⊢ Q ⟨⟩) :
    Pre d L X I O W q h sem s b g n Z ⊢ WP d L (SparseCore.waitIndirectGather sem featW (slotV b) x1 x2) Q := by
  unfold Pre; exact s_wait b hg k

theorem h_copy {q h : PosShare TreeShare} {sem s : DmaSem sig} {b : Fin 2} {t : Fin k0_t1_loop.trips} {r : Fin 2} {Z : sProp 𝕄} {x1 x2 x3} {Q : PUnit → sProp 𝕄}
    (k : Mid d L X I O W q h sem s b t r Z ⊢ Q ⟨⟩) :
    PoolAt d L (gath X (lst I (wid L)) (2 * t.val + r.val)) b iprop(((featV).view.loc (tile d L) ↦{q} X) ∗ ((listV).view.loc (tile d L) ↦{h} lst I (wid L))
      ∗ semVal (tile d L, .dma sem) 0 ∗ Ow d L O W ∗ (Outs d L X I (2 * t.val + r.val) ∗ semVal (tile d L, .dma s) 0 ∗ Z)) 64
      ⊢ WP d L (Prog.lift (.enqueueDma accV (.here (outW L t r)) (.dma s) x1 x2 x3)) Q := by
  refine s_copy ?_ k
  iintro ⟨Hx, Hl, Hv, How, Ho, Hs, HZ⟩
  isplitl [Ho]; · iexact Ho
  isplitl [Hs]; · iexact Hs
  isplitl [Hx]; · iexact Hx
  isplitl [Hl]; · iexact Hl
  isplitl [Hv]; · iexact Hv
  isplitl [How] <;> iassumption

theorem post_of {q h : PosShare TreeShare} {sem s : DmaSem sig} {b : Fin 2} {n : ℕ} {Z : sProp 𝕄} :
    iprop(Outs d L X I n ∗ Acc d L ∗ semVal (tile d L, .dma s) 0 ∗ Ow d L O W ∗ (Idle d L X I q h sem b ∗ Z)) ⊢ Post d L X I O W q h sem s b n Z := by
  unfold Post
  iintro ⟨Ho, Ha, Hs, How, Hi, HZ⟩
  isplitl [Hi]; · iexact Hi
  isplitl [Ha]; · iexact Ha
  isplitl [How]; · iexact How
  isplitl [Ho]; · iexact Ho
  isplitl [Hs] <;> iassumption

theorem h_done {q h : PosShare TreeShare} {sem s : DmaSem sig} {b : Fin 2} {t : Fin k0_t1_loop.trips} {r : Fin 2} {Z : sProp 𝕄} {x1 x2} {Q : PUnit → sProp 𝕄}
    (k : Post d L X I O W q h sem s b (2 * t.val + r.val + 1) Z ⊢ Q ⟨⟩) :
    Mid d L X I O W q h sem s b t r Z ⊢ WP d L (Prog.lift (.waitDma2 s accV (outW L t r) x1 x2)) Q := by
  refine s_done (X := X) (I := I) (O := O) (W := W) (Oth := iprop(Idle d L X I q h sem b ∗ Z)) ?_ (BI.Entails.trans ?_ k)
  · unfold Mid Idle Own
    iintro ⟨⟨%R, Hr⟩, Ho, Hx, Hl, Hv, How, HZ⟩
    isplitl [Ho]; · iexact Ho
    isplitl [How]; · iexact How
    isplitr [HZ]
    · isplitr [Hv]
      · iexists R
        isplitl [Hr]; · iexact Hr
        isplitl [Hx] <;> iassumption
      · iexact Hv
    · iexact HZ
  · exact post_of

theorem h_gather (hok : ListOk (F := F) L I) {q h : PosShare TreeShare} {sem s : DmaSem sig} {b : Fin 2} {off : Fin 2 → ℕ} {ho : ∀ a, off a + S1x128.size a ≤ S100x128.size a}
    {g n : ℕ} (hoff : off = ![g, 0]) (hg : g < 100) {Z : sProp 𝕄} {x1 x2 x3 x4 x5} {Q : PUnit → sProp 𝕄}
    (k : Pre d L X I O W q h sem s b g n Z ⊢ Q ⟨⟩) :
    Post d L X I O W q h sem s b n Z
      ⊢ WP d L (SparseCore.enqueueIndirectGather x1 featW (slotV b) gathers_S50000x128_S128x128 (listW off ho) x2 sem x3 x4 x5) Q := by
  unfold Post; unfold Pre at k
  exact s_gather hok b hoff hg k

theorem h_skip {q h : PosShare TreeShare} {sem s : DmaSem sig} {b : Fin 2} {g n : ℕ} (hg : ¬ g < 100) {Z : sProp 𝕄} :
    Post d L X I O W q h sem s b n Z ⊢ Pre d L X I O W q h sem s b g n Z := by
  unfold Post Pre Slot
  rw [if_neg hg]

/-- From one slot's turn to the other's. -/
theorem h_swap {q h q' h' : PosShare TreeShare} {sem s sem' s' : DmaSem sig} {b b' : Fin 2} {g g' n : ℕ} :
    Pre d L X I O W q h sem s b g n iprop(Slot d L X I q' h' sem' b' g' ∗ semVal (tile d L, .dma s') 0)
      ⊢ Pre d L X I O W q' h' sem' s' b' g' n iprop(Slot d L X I q h sem b g ∗ semVal (tile d L, .dma s) 0) := by
  unfold Pre
  iintro ⟨Hf, Ha, How, Ho, Hs, Hf', Hs'⟩
  isplitl [Hf']; · iexact Hf'
  isplitl [Ha]; · iexact Ha
  isplitl [How]; · iexact How
  isplitl [Ho]; · iexact Ho
  isplitl [Hs']; · iexact Hs'
  isplitl [Hf] <;> iassumption

variable (d L X I O W)

/-- What the tile holds before trip `t`, holding share `q` of the features. -/
def Inv (t : ℕ) : sProp 𝕄 :=
  Pre d L X I O W q.left fullShare.left cc0_scratch3.sem cc0_scoped1.sem 0 (2 * t) (2 * t)
    iprop(Slot d L X I q.right fullShare.right cc0_scratch4.sem 1 (2 * t + 1) ∗ semVal (tile d L, .dma cc0_scoped2.sem) 0)

/-- One trip. -/
theorem trip (hok : ListOk (F := F) L I) (t : Fin k0_t1_loop.trips) {v2 c0 c1 : BitVec 32} {Q : PUnit → sProp 𝕄} (k : Inv d L X I O W q (t.val + 1) ⊢ Q ⟨⟩) :
    Inv d L X I O W q t.val ⊢ WP d L (k0_part292 L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2 v2 c0 c1 t) Q := by
  have ht := trip_lt t
  unfold Inv at k ⊢
  refine walkTrip (R := gath X (lst I (wid L)) (2 * t.val + (0 : Fin 2).val)) (R' := gath X (lst I (wid L)) (2 * t.val + (1 : Fin 2).val))
    (D := Pre d L X I O W q.left fullShare.left cc0_scratch3.sem cc0_scoped1.sem 0 (2 * t.val + 2) (2 * t.val + (0 : Fin 2).val + 1)
      iprop(Slot d L X I q.right fullShare.right cc0_scratch4.sem 1 (2 * t.val + 1) ∗ semVal (tile d L, .dma cc0_scoped2.sem) 0))
    (E := Pre d L X I O W q.right fullShare.right cc0_scratch4.sem cc0_scoped2.sem 1 (2 * t.val + 3) (2 * t.val + (1 : Fin 2).val + 1)
      iprop(Slot d L X I q.left fullShare.left cc0_scratch3.sem 0 (2 * t.val + 2) ∗ semVal (tile d L, .dma cc0_scoped1.sem) 0))
    (fun k => h_wait (b := 0) (by omega) k) (fun k => h_copy (b := 0) (r := 0) k) (fun k => h_done (r := 0) k)
    (fun hc _ _ _ _ _ _ k => h_gather hok (b := 0) (k0_off3_eq t) ((cond1_iff t).1 hc) k) (fun hc => h_skip (fun hlt => hc ((cond1_iff t).2 hlt)))
    (fun k => (h_swap (g := 2 * t.val + 2)).trans (h_wait (b := 1) (by omega) k)) (fun k => h_copy (b := 1) (r := 1) k) (fun k => h_done (r := 1) k)
    (fun hc _ _ _ _ _ _ k => h_gather hok (b := 1) (k0_off4_eq t) ((cond2_iff t).1 hc) k) (fun hc => h_skip (fun hlt => hc ((cond2_iff t).2 hlt)))
    (h_swap.trans ?_)
  exact k

end Cert.KernelIdeal.Pool

end
-- ==== Proof.PoolIdeal.Tile.lean ====
/-
  One tile's task: fetch its list, start the first two gathers, run the fifty trips; from its plane of the indices, a
  share of the features and its rows of the output at anything, to those rows at the pooled values.
-/
module

public import proofs.«01_k».proof.Proof.PoolIdeal.Trip

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable (d : Dev nD) (L : grid0.Coords) (X : S50000x128.Idx → Elt F .f32) (I : S32x100x128.Idx → Elt F .i32)
variable (O : CellTallies nD τ sig (HIx 1)) (W : Waits sig (HIx 1)) (q : PosShare TreeShare)

/-- The task's plane of the indices. -/
def Plane : sProp 𝕄 := iprop((idxV).view.loc (tile d L) ↦[idxSet (wid L)]{fullShare} I)

/-- The fetch of the task's list, on its way. -/
def Fetch : sProp 𝕄 :=
  Transfers.Flight countersEmb (tile d L) (.dma cc0_scoped0.sem) (default : HIx 1) (listV).view.dmaCredit
    iprop(((listV).view.loc (tile d L) ↦{fullShare} lst I (wid L)) ∗ Plane d L I)

variable {d L X I O W}

theorem s_fetch {Oth : sProp 𝕄} {x1 x2 x3} {Q : PUnit → sProp 𝕄} (k : iprop(Fetch d L I ∗ Oth) ⊢ Q ⟨⟩) :
    iprop(Plane d L I ∗ (∃ f : S100x128.Idx → Elt F .i32, (listV).view.loc (tile d L) ↦{fullShare} f) ∗ semVal (tile d L, .dma cc0_scoped0.sem) 0 ∗ Oth)
      ⊢ WP d L (Prog.lift (.enqueueDma (idxW L) (.here listV) (.dma cc0_scoped0.sem) x1 x2 x3)) Q := by
  rw [WP_eq]
  unfold Fetch at k
  iintro ⟨Hi, ⟨%f, Hl⟩, Hv, Hoth⟩
  ihave Hi' := (Entails.of_eq (show (Plane d L I : sProp 𝕄) = (idxW L).view.loc (tile d L) ↦[(idxW L).view.set]{fullShare} I by rw [idx_set]; rfl)) $$ Hi
  iapply (Transfers.wp_dmaLocal countersEmb 𝒱₀ (tile d L) none (dst := listV) (Sd := Finset.univ) (fd := f) (default : HIx 1) (listV).view.dmaCredit rfl
      (View.dmaCredit_pos _ (by decide)) (Finset.subset_univ _)) $$ [Hi' Hl Hv]
  · isplitl [Hi']; · iexact Hi'
    isplitl [Hl]; · iexact Hl
    iexact Hv
  iintro Hf
  iapply (le_wp_ret frame _ Set.univ _ Q)
  iapply k
  isplitl [Hf]
  · iapply (Transfers.Flight_mono countersEmb (tile d L) ?_) $$ Hf
    iintro ⟨Hl, Hi⟩
    isplitl [Hl]
    · iapply (Entails.of_eq (show ((listV).view.loc (tile d L) ↦{fullShare} (listV).view.write (Elt F) f ((idxW L).view.read (Elt F) I) Finset.univ : sProp 𝕄)
        = ((listV).view.loc (tile d L) ↦{fullShare} lst I (wid L)) by rw [View.write_whole_univ, idx_read])) $$ Hl
    · iapply (Entails.of_eq (show (Plane d L I : sProp 𝕄) = (idxW L).view.loc (tile d L) ↦[(idxW L).view.set]{fullShare} I by rw [idx_set]; rfl).symm) $$ Hi
  iexact Hoth

theorem s_fetched {Oth : sProp 𝕄} {x1 x2} {Q : PUnit → sProp 𝕄}
    (k : iprop(((listV).view.loc (tile d L) ↦{fullShare} lst I (wid L)) ∗ Plane d L I ∗ semVal (tile d L, .dma cc0_scoped0.sem) 0 ∗ Ow d L O W ∗ Oth) ⊢ Q ⟨⟩) :
    iprop(Fetch d L I ∗ Ow d L O W ∗ Oth) ⊢ WP d L (Prog.lift (.waitDma2 cc0_scoped0.sem (idxW L) listV x1 x2)) Q := by
  rw [WP_eq]
  unfold Fetch
  iintro ⟨Hf, How, Hoth⟩
  ihave How' := ow_open $$ How
  icases How' with ⟨%W', %hW', HO, #Hmw⟩
  iapply (Transfers.wp_waitLocalO countersEmb 𝒱₀ (tile d L) none (default : HIx 1) (rfl : (listV).view.dmaCredit = _)) $$ [Hf HO]
  · isplitl [Hf]; · iexact Hf
    isplitl [HO]; · iexact HO
    iapply (Transfers.MayWaits.elim (SemLoc.dma cc0_scoped0.sem)) $$ Hmw
  iintro ⟨⟨Hl, Hi⟩, Hv, HO⟩
  iapply (le_wp_ret frame _ Set.univ _ Q)
  iapply k
  isplitl [Hl]; · iexact Hl
  isplitl [Hi]; · iexact Hi
  isplitl [Hv]; · iexact Hv
  isplitr [Hoth]
  · unfold Ow
    iexists _; isplitr
    swap
    · isplitl [HO]; · iexact HO
      iexact Hmw
    ipureintro; intro p hp
    rcases Finset.mem_insert.mp hp with hp | hp
    · exact .inr (hp ▸ rfl)
    · exact hW' p hp
  iexact Hoth

theorem slots_disjoint : Disjoint (slotSet 0) (slotSet 1) := by
  refine Finset.disjoint_left.2 fun x h0 h1 => ?_
  have e0 : (x 0).val = 0 := (Finset.mem_filter.1 h0).2
  have e1 : (x 0).val = 1 := (Finset.mem_filter.1 h1).2
  omega

theorem slots_cover : slotSet 0 ∪ slotSet 1 = Finset.univ := by
  refine Finset.eq_univ_of_forall fun x => Finset.mem_union.2 ?_
  have x0 : (x 0).val < 2 := (x 0).isLt
  rcases Nat.lt_or_ge (x 0).val 1 with h | h
  · exact .inl (Finset.mem_filter.2 ⟨Finset.mem_univ _, show (x 0).val = 0 by omega⟩)
  · exact .inr (Finset.mem_filter.2 ⟨Finset.mem_univ _, show (x 0).val = 1 by omega⟩)

variable (d L X I O W)

/-- What the tile's two gather slots hold between them when no gather is on its way. -/
def Both : sProp 𝕄 :=
  iprop((Idle d L X I q.left fullShare.left cc0_scratch3.sem 0) ∗ (Idle d L X I q.right fullShare.right cc0_scratch4.sem 1))

/-- The same as the buffers they are of. -/
def Bufs : sProp 𝕄 :=
  iprop((∃ R : S2x128x128.Idx → Elt F .f32, (rowsV).view.loc (tile d L) ↦{fullShare} R) ∗ ((featV).view.loc (tile d L) ↦{q} X)
    ∗ ((listV).view.loc (tile d L) ↦{fullShare} lst I (wid L)) ∗ semVal (tile d L, .dma cc0_scratch3.sem) 0 ∗ semVal (tile d L, .dma cc0_scratch4.sem) 0)

theorem both_of_bufs : Bufs d L X I q ⊢ Both d L X I q := by
  unfold Bufs Both Idle Own
  iintro ⟨⟨%R, Hr⟩, Hx, Hl, Ha, Hb⟩
  ihave Hr1 := (Entails.of_eq (show ((rowsV).view.loc (tile d L) ↦{fullShare} R : sProp 𝕄) = (rowsV).view.loc (tile d L) ↦[slotSet 0 ∪ slotSet 1]{fullShare} R by rw [slots_cover])) $$ Hr
  ihave Hr2 := (pointsTo_union slots_disjoint).1 $$ Hr1
  icases Hr2 with ⟨Hr0, Hr1⟩
  ihave Hx' := (pointsTo_share (PosShare.mem_left_op_right q)).1 $$ Hx
  icases Hx' with ⟨Hx0, Hx1⟩
  ihave Hl' := (pointsTo_share (PosShare.mem_left_op_right fullShare)).1 $$ Hl
  icases Hl' with ⟨Hl0, Hl1⟩
  isplitl [Hr0 Hx0 Hl0 Ha]
  · isplitr [Ha]
    · iexists R
      isplitl [Hr0]; · iexact Hr0
      isplitl [Hx0] <;> iassumption
    · iexact Ha
  · isplitr [Hb]
    · iexists R
      isplitl [Hr1]; · iexact Hr1
      isplitl [Hx1] <;> iassumption
    · iexact Hb

theorem bufs_of_both : Both d L X I q ⊢ Bufs d L X I q := by
  unfold Bufs Both Idle Own
  iintro ⟨⟨⟨%R0, Hr0, Hx0, Hl0⟩, Ha⟩, ⟨%R1, Hr1, Hx1, Hl1⟩, Hb⟩
  ihave Hr := (pointsTo_join (ℓ := (rowsV).view.loc (tile d L)) (f := R0) (g := R1) slots_disjoint) $$ [Hr0 Hr1]
  · isplitl [Hr0] <;> iassumption
  ihave Hx := (pointsTo_share (PosShare.mem_left_op_right q)).2 $$ [Hx0 Hx1]
  · isplitl [Hx0] <;> iassumption
  ihave Hl := (pointsTo_share (PosShare.mem_left_op_right fullShare)).2 $$ [Hl0 Hl1]
  · isplitl [Hl0] <;> iassumption
  isplitl [Hr]
  · iexists _
    iapply (Entails.of_eq (show ((rowsV).view.loc (tile d L) ↦{fullShare} ((slotSet 1).piecewise R1 R0) : sProp 𝕄)
      = (rowsV).view.loc (tile d L) ↦[slotSet 0 ∪ slotSet 1]{fullShare} ((slotSet 1).piecewise R1 R0) by rw [slots_cover]).symm) $$ Hr
  isplitl [Hx]; · iexact Hx
  isplitl [Hl]; · iexact Hl
  isplitl [Ha] <;> iassumption

/-- What the tile's task holds beside the two gathers. -/
def Side (n : ℕ) : sProp 𝕄 :=
  iprop(Acc d L ∗ Ow d L O W ∗ Outs d L X I n ∗ semVal (tile d L, .dma cc0_scoped1.sem) 0 ∗ semVal (tile d L, .dma cc0_scoped2.sem) 0)

theorem inv_zero : iprop(Slot d L X I q.right fullShare.right cc0_scratch4.sem 1 1 ∗ (Slot d L X I q.left fullShare.left cc0_scratch3.sem 0 0 ∗ Side d L X I O W 0))
    ⊢ Inv d L X I O W q 0 := by
  unfold Inv Pre Side
  iintro ⟨Hb, Ha, Hac, How, Ho, H1, H2⟩
  isplitl [Ha]; · iexact Ha
  isplitl [Hac]; · iexact Hac
  isplitl [How]; · iexact How
  isplitl [Ho]; · iexact Ho
  isplitl [H1]; · iexact H1
  isplitl [Hb]; · iexact Hb
  iexact H2

theorem inv_end : Inv d L X I O W q 50 ⊢ iprop(Both d L X I q ∗ Side d L X I O W 100) := by
  unfold Inv Pre Side Both Slot
  rw [if_neg (by decide), if_neg (by decide)]
  iintro ⟨Ha, Hac, How, Ho, H1, Hb, H2⟩
  isplitl [Ha Hb]
  · isplitl [Ha] <;> iassumption
  isplitl [Hac]; · iexact Hac
  isplitl [How]; · iexact How
  isplitl [Ho]; · iexact Ho
  isplitl [H1]; · iexact H1
  iexact H2

theorem trips_eq : k0_t1_loop.trips = 50 := by decide +kernel

attribute [local irreducible] k0_part292

/-- The fifty trips. -/
theorem trips_run (hok : ListOk (F := F) L I) {v2 c0 c1 : BitVec 32} {A Z : sProp 𝕄} {Q : PUnit → sProp 𝕄} (hA : A ⊢ iprop(Inv d L X I O W q 0 ∗ Z))
    (k : iprop(Inv d L X I O W q 50 ∗ Z) ⊢ Q ⟨⟩) :
    A ⊢ WP d L (Scf.Loop.for k0_t1_loop k0_t1_ok ⟨⟩ fun t _ => do
      k0_part292 L featV (Memref.isWhole_whole _) idxV (Memref.isWhole_whole _) outV (Memref.isWhole_whole _) listV (Memref.isWhole_whole _)
        rowsV (Memref.isWhole_whole _) accV (Memref.isWhole_whole _) cc0_scratch3 cc0_scratch4 cc0_scoped0 cc0_scoped1 cc0_scoped2 v2 c0 c1 t
      pure ⟨⟩) Q := by
  have e : iprop(Inv d L X I O W q 0 ∗ Z) ⊢ iprop(Inv d L X I O W q 0 ∗ (∀ acc : PUnit, Inv d L X I O W q k0_t1_loop.trips -∗ Q acc)) := by
    iintro ⟨HI, HZ⟩
    isplitl [HI]; · iexact HI
    iintro %acc HI
    iapply k
    isplitl [HI]
    · iapply (Entails.of_eq (show Inv d L X I O W q k0_t1_loop.trips = Inv d L X I O W q 50 by rw [trips_eq])) $$ HI
    · iexact HZ
  refine hA.trans (e.trans ?_)
  rw [WP_eq]
  refine Scf.wp_for (σ := PUnit) frame (wpE (defs₀ (F := F)) 𝒱₀ (tile d L) none) Set.univ k0_t1_loop.lb k0_t1_loop.ub k0_t1_loop.st k0_t1_ok PUnit.unit _
    (fun n _ => Inv d L X I O W q n) ?_
  intro t acc
  refine BI.Entails.trans (w_bind (k := fun _ => pure PUnit.unit) (Q := fun _ : PUnit => Inv d L X I O W q (t.val + 1))
    (trip d L X I O W q hok t (v2 := v2) (c0 := c0) (c1 := c1) (w_pure (Entails.of_eq rfl)))) (Entails.of_eq (WP_eq _ _))

end Cert.KernelIdeal.Pool

end
-- ==== Proof.PoolIdeal.Body.lean ====
/-
  The task whole: the body of the kernel at one tile, from and to the tile's buffers and semaphores.
-/
module

public import proofs.«01_k».proof.Proof.PoolIdeal.Tile

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

variable (d : Dev nD) (L : grid0.Coords) (X : S50000x128.Idx → Elt F .f32) (I : S32x100x128.Idx → Elt F .i32)
variable (O : CellTallies nD τ sig (HIx 1)) (W : Waits sig (HIx 1)) (q : PosShare TreeShare)

/-- The task's rows of the output. -/
def Rows (f : S25600x128.Idx → Elt F .f32) : sProp 𝕄 := iprop((outV).view.loc (tile d L) ↦[outSet (wid L)]{fullShare} f)

/-- The tile's scratch: the buffers at anything, the semaphores at zero. -/
def Scratch : sProp 𝕄 :=
  iprop((∃ f : S100x128.Idx → Elt F .i32, (listV).view.loc (tile d L) ↦{fullShare} f) ∗ (∃ f : S2x128x128.Idx → Elt F .f32, (rowsV).view.loc (tile d L) ↦{fullShare} f)
    ∗ (Acc d L) ∗ semVal (tile d L, .dma cc0_scratch3.sem) 0 ∗ semVal (tile d L, .dma cc0_scratch4.sem) 0
    ∗ semVal (tile d L, .dma cc0_scoped0.sem) 0 ∗ semVal (tile d L, .dma cc0_scoped1.sem) 0 ∗ semVal (tile d L, .dma cc0_scoped2.sem) 0)

/-- What the task holds at its start and, the output then at `spec X I`, at its end. -/
def Held (f : S25600x128.Idx → Elt F .f32) : sProp 𝕄 :=
  iprop((Plane d L I ∗ ((featV).view.loc (tile d L) ↦{q} X) ∗ Rows d L f) ∗ Scratch d L ∗ Ow d L O W)

variable {d L X I O W q}

theorem held_start {f : S25600x128.Idx → Elt F .f32} :
    Held d L X I O W q f ⊢ iprop(Plane d L I ∗ (∃ f : S100x128.Idx → Elt F .i32, (listV).view.loc (tile d L) ↦{fullShare} f) ∗ semVal (tile d L, .dma cc0_scoped0.sem) 0
      ∗ Ow d L O W ∗ (∃ f : S2x128x128.Idx → Elt F .f32, (rowsV).view.loc (tile d L) ↦{fullShare} f) ∗ ((featV).view.loc (tile d L) ↦{q} X)
      ∗ semVal (tile d L, .dma cc0_scratch3.sem) 0 ∗ semVal (tile d L, .dma cc0_scratch4.sem) 0
      ∗ Acc d L ∗ Rows d L f ∗ semVal (tile d L, .dma cc0_scoped1.sem) 0 ∗ semVal (tile d L, .dma cc0_scoped2.sem) 0) := by
  unfold Held Scratch
  iintro ⟨⟨Hi, Hx, Ho⟩, ⟨Hl, Hr, Ha, H3, H4, H0, H1, H2⟩, How⟩
  isplitl [Hi]; · iexact Hi
  isplitl [Hl]; · iexact Hl
  isplitl [H0]; · iexact H0
  isplitl [How]; · iexact How
  isplitl [Hr]; · iexact Hr
  isplitl [Hx]; · iexact Hx
  isplitl [H3]; · iexact H3
  isplitl [H4]; · iexact H4
  isplitl [Ha]; · iexact Ha
  isplitl [Ho]; · iexact Ho
  isplitl [H1] <;> iassumption

theorem outs_zero {f : S25600x128.Idx → Elt F .f32} : Rows d L f ⊢ Outs d L X I 0 := by
  unfold Rows Outs
  iintro Ho
  iexists f
  isplitr; · ipureintro; intro y _ hy; exact absurd hy (Nat.not_lt_zero _)
  iexact Ho

theorem outs_all : Outs d L X I 100 ⊢ Rows d L (spec X I) := by
  unfold Rows Outs
  iintro ⟨%f, %hf, Ho⟩
  iapply (Entails.of_eq (pointsTo_congr (f := f) (g := spec X I) (fun y hy => hf y hy (by omega)))) $$ Ho

theorem fetched_bufs {f : S25600x128.Idx → Elt F .f32} :
    iprop(((listV).view.loc (tile d L) ↦{fullShare} lst I (wid L)) ∗ Plane d L I ∗ semVal (tile d L, .dma cc0_scoped0.sem) 0
      ∗ Ow d L O W ∗ (∃ f : S2x128x128.Idx → Elt F .f32, (rowsV).view.loc (tile d L) ↦{fullShare} f) ∗ ((featV).view.loc (tile d L) ↦{q} X)
      ∗ semVal (tile d L, .dma cc0_scratch3.sem) 0 ∗ semVal (tile d L, .dma cc0_scratch4.sem) 0
      ∗ Acc d L ∗ Rows d L f ∗ semVal (tile d L, .dma cc0_scoped1.sem) 0 ∗ semVal (tile d L, .dma cc0_scoped2.sem) 0)
      ⊢ iprop(Bufs d L X I q ∗ Side d L X I O W 0 ∗ Plane d L I ∗ semVal (tile d L, .dma cc0_scoped0.sem) 0) := by
  unfold Bufs Side
  iintro ⟨Hl, Hi, H0, How, Hr, Hx, H3, H4, Ha, Ho, H1, H2⟩
  isplitl [Hr Hx Hl H3 H4]
  · isplitl [Hr]; · iexact Hr
    isplitl [Hx]; · iexact Hx
    isplitl [Hl]; · iexact Hl
    isplitl [H3] <;> iassumption
  isplitl [Ha How Ho H1 H2]
  · isplitl [Ha]; · iexact Ha
    isplitl [How]; · iexact How
    isplitl [Ho]; · iapply outs_zero $$ Ho
    isplitl [H1] <;> iassumption
  isplitl [Hi] <;> iassumption

theorem first_idle : iprop(Bufs d L X I q ∗ Side d L X I O W 0 ∗ Plane d L I ∗ semVal (tile d L, .dma cc0_scoped0.sem) 0)
    ⊢ iprop(Idle d L X I q.left fullShare.left cc0_scratch3.sem 0 ∗ (Idle d L X I q.right fullShare.right cc0_scratch4.sem 1
      ∗ Side d L X I O W 0 ∗ Plane d L I ∗ semVal (tile d L, .dma cc0_scoped0.sem) 0)) := by
  iintro ⟨HB, HS⟩
  ihave HB' := (both_of_bufs d L X I q) $$ HB
  unfold Both
  icases HB' with ⟨Ha, Hb⟩
  isplitl [Ha]; · iexact Ha
  isplitl [Hb] <;> iassumption

theorem second_idle {A B C D : sProp 𝕄} : iprop(A ∗ (B ∗ C ∗ D)) ⊢ iprop(B ∗ (A ∗ C ∗ D)) := by
  iintro ⟨HA, HB, HC⟩
  isplitl [HB]; · iexact HB
  isplitl [HA] <;> iassumption

theorem enter {Z : sProp 𝕄} : iprop(Slot d L X I q.right fullShare.right cc0_scratch4.sem 1 1 ∗ (Slot d L X I q.left fullShare.left cc0_scratch3.sem 0 0 ∗ Side d L X I O W 0 ∗ Z))
    ⊢ iprop(Inv d L X I O W q 0 ∗ Z) := by
  iintro ⟨Hb, Ha, HS, HZ⟩
  isplitr [HZ]
  · iapply (inv_zero d L X I O W q)
    isplitl [Hb]; · iexact Hb
    isplitl [Ha] <;> iassumption
  · iexact HZ

theorem leave : iprop(Inv d L X I O W q 50 ∗ Plane d L I ∗ semVal (tile d L, .dma cc0_scoped0.sem) 0) ⊢ Held d L X I O W q (spec X I) := by
  iintro ⟨HI, Hi, H0⟩
  ihave HI' := (inv_end d L X I O W q) $$ HI
  icases HI' with ⟨HB, HS⟩
  ihave HB' := (bufs_of_both d L X I q) $$ HB
  unfold Held Bufs Side Scratch
  icases HB' with ⟨Hr, Hx, Hl, H3, H4⟩
  icases HS with ⟨Ha, How, Ho, H1, H2⟩
  isplitl [Hi Hx Ho]
  · isplitl [Hi]; · iexact Hi
    isplitl [Hx]; · iexact Hx
    iapply outs_all $$ Ho
  isplitr [How]
  · isplitl [Hl]; · iexists _; iexact Hl
    isplitl [Hr]; · iexact Hr
    isplitl [Ha]; · iexact Ha
    isplitl [H3]; · iexact H3
    isplitl [H4]; · iexact H4
    isplitl [H0]; · iexact H0
    isplitl [H1] <;> iassumption
  · iexact How

attribute [local irreducible] k0_part292

set_option maxHeartbeats 1000000 in
/-- The kernel's body at one tile. -/
theorem body (hok : ListOk (F := F) L I) {f : S25600x128.Idx → Elt F .f32} :
    Held d L X I O W q f ⊢ WP d L (cc0__pool_body L featV (Memref.isWhole_whole _) idxV (Memref.isWhole_whole _) outV (Memref.isWhole_whole _) listV (Memref.isWhole_whole _)
      rowsV (Memref.isWhole_whole _) accV (Memref.isWhole_whole _) cc0_scratch3 cc0_scratch4 cc0_scoped0 cc0_scoped1 cc0_scoped2) (fun _ => Held d L X I O W q (spec X I)) := by
  unfold cc0__pool_body
  refine held_start.trans ?_
  refine w_bind (s_fetch ?_)
  refine w_bind (s_fetched ?_)
  refine (fetched_bufs.trans first_idle).trans ?_
  refine w_bind (s_gather hok 0 (g := 0) rfl (by decide) ?_)
  refine second_idle.trans ?_
  refine w_bind (s_gather hok 1 (g := 1) rfl (by decide) ?_)
  refine w_bind (trips_run d L X I O W q hok enter ?_)
  exact w_pure leave

end Cert.KernelIdeal.Pool

end
-- ==== Proof.PoolIdeal.Tasks.lean ====
/-
  The launch's tasks: the arrays cut into the thirty-two tasks' parts, and the kernel's body as the launch asks it of
  every tile.
-/
module

public import proofs.«01_k».proof.Proof.PoolIdeal.Body

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays, cut into tasks -/

abbrev iLoc (d : Dev nD) : Loc nD τ sig := (SparseCore.T d).loc main_v1
abbrev xLoc (d : Dev nD) : Loc nD τ sig := (SparseCore.T d).loc main_arg1
abbrev oLoc (d : Dev nD) : Loc nD τ sig := (SparseCore.T d).loc main_v2

/-- The share of the features that the task on subcore `i` of SparseCore `c` reads through. -/
def shareOf (c : Fin 2) (i : Fin 16) : PosShare TreeShare :=
  Idealize.ShloMosaic.pieceOf (Idealize.ShloMosaic.pieceOf fullShare 2 (by decide) c) 16 (by decide) i

/-- What a task takes: its plane of the index array, its share of the features, its rows of the output. -/
def Task (d : Dev nD) (X : Buf (Elt F) (xLoc d)) (I : Buf (Elt F) (iLoc d)) (f : Buf (Elt F) (oLoc d)) (q : PosShare TreeShare) (w : ℕ) : sProp 𝕄 :=
  iprop((iLoc d ↦[idxSet w]{fullShare} I) ∗ (xLoc d ↦{q} X) ∗ (oLoc d ↦[outSet w]{fullShare} f))

instance (d : Dev nD) (X : Buf (Elt F) (xLoc d)) (I : Buf (Elt F) (iLoc d)) (f : Buf (Elt F) (oLoc d)) (q : PosShare TreeShare) (w : ℕ) :
    BI.Storable (upEmb : UEmb _ 𝕄) (Task d X I f q w) := by unfold Task; infer_instance

/-- An array cut by a function of its elements with values below 32, by SparseCore and subcore. -/
theorem cut_by {ℓ : Loc nD τ sig} (g : Idx ℓ → ℕ) (hg : ∀ x, g x < 32) (q : PosShare TreeShare) (f : Buf (Elt F) ℓ) :
    (ℓ ↦{q} f : sProp 𝕄) = bigSep (Finset.univ : Finset (Fin 2)) fun c => bigSep (Finset.univ : Finset (Fin 16)) fun i =>
      ℓ ↦[Finset.univ.filter fun x => g x = 2 * i.val + c.val]{q} f := by
  classical
  have e1 : (Finset.univ : Finset (Idx ℓ)) = (Finset.univ : Finset (Fin 2)).biUnion fun c => Finset.univ.filter fun x => g x % 2 = c.val := by
    ext x
    simp only [Finset.mem_univ, Finset.mem_biUnion, Finset.mem_filter, true_and, true_iff]
    exact ⟨⟨g x % 2, Nat.mod_lt _ (by decide)⟩, rfl⟩
  have e2 : ∀ c : Fin 2, (Finset.univ.filter fun x : Idx ℓ => g x % 2 = c.val)
      = (Finset.univ : Finset (Fin 16)).biUnion fun i => Finset.univ.filter fun x => g x = 2 * i.val + c.val := by
    intro c; ext x
    simp only [Finset.mem_univ, Finset.mem_biUnion, Finset.mem_filter, true_and]
    have h := hg x
    constructor
    · intro e; exact ⟨⟨g x / 2, by omega⟩, by show g x = 2 * (g x / 2) + c.val; omega⟩
    · rintro ⟨i, hi⟩; have := c.isLt; omega
  refine (congrArg (fun s => (ℓ ↦[s]{q} f : sProp 𝕄)) e1).trans ?_
  rw [pointsTo_biUnion]
  · refine bigSep_congr fun c _ => ?_
    rw [e2 c, pointsTo_biUnion]
    intro i _ j _ hij
    rw [Finset.disjoint_left]; intro x hx hy
    rw [Finset.mem_filter] at hx hy
    exact hij (Fin.ext (by omega))
  · intro c _ c' _ hc
    rw [Finset.disjoint_left]; intro x hx hy
    rw [Finset.mem_filter] at hx hy
    exact hc (Fin.ext (by omega))

/-- The three arrays are the tasks' parts of them. -/
theorem tasks_eq (d : Dev nD) (X : Buf (Elt F) (xLoc d)) (I : Buf (Elt F) (iLoc d)) (f : Buf (Elt F) (oLoc d)) :
    (iprop((iLoc d ↦{fullShare} I) ∗ (xLoc d ↦{fullShare} X) ∗ (oLoc d ↦{fullShare} f)) : sProp 𝕄)
      = bigSep (Finset.univ : Finset (Fin 2)) fun c => bigSep (Finset.univ : Finset (Fin 16)) fun i => Task d X I f (shareOf c i) (2 * i.val + c.val) := by
  have hx : (xLoc d ↦{fullShare} X : sProp 𝕄)
      = bigSep (Finset.univ : Finset (Fin 2)) fun c => bigSep (Finset.univ : Finset (Fin 16)) fun i => xLoc d ↦{shareOf c i} X := by
    rw [pointsTo_piecesOf Finset.univ X (by decide : 0 < 2) fullShare]
    exact bigSep_congr fun c _ => pointsTo_piecesOf Finset.univ X (by decide : 0 < 16) _
  rw [hx, cut_by (ℓ := iLoc d) (fun x : S32x100x128.Idx => (x 0).val) (fun x => (x 0).isLt),
    cut_by (ℓ := oLoc d) (fun y : S25600x128.Idx => (y 0).val / 800) (fun y => by have h : (y 0).val < 25600 := (y 0).isLt; omega),
    ← bigSep_sep', ← bigSep_sep']
  refine bigSep_congr fun c _ => ?_
  rw [← bigSep_sep', ← bigSep_sep']
  rfl

/-! ## The tile's own buffers and semaphores -/

section Tile
variable (d : Dev nD) (L : grid0.Coords)

/-- The tile's semaphore of that name. -/
abbrev cellOf (s : SemLoc sig) : GSem nD τ sig := (tile d L, s)

/-- The tile's five transfer semaphores are among its own. -/
theorem ownSems0_tile : ∃ R : sProp 𝕄, (ownSems0 (tile d L) : sProp 𝕄)
      = iprop(semVal (tile d L, .dma cc0_scratch3.sem) 0 ∗ semVal (tile d L, .dma cc0_scratch4.sem) 0
    ∗ semVal (tile d L, .dma cc0_scoped0.sem) 0 ∗ semVal (tile d L, .dma cc0_scoped1.sem) 0 ∗ semVal (tile d L, .dma cc0_scoped2.sem) 0 ∗ R) := by
  have own : ∀ s : SemLoc sig, s.isScoped .scVector = true → (tile d L, s) ∈ ownCells (tile d L) := fun s hs => mem_ownCells.mpr ⟨rfl, hs⟩
  have ne : ∀ {s s' : SemLoc sig}, s ≠ s' → ((tile d L, s) : GSem nD τ sig) ≠ (tile d L, s') := fun h e => h (congrArg Prod.snd e)
  unfold SparseCore.Cfg.ownSems0
  rw [SparseCore.bigSep_erase' (own (.dma cc0_scratch3.sem) (by decide)),
    SparseCore.bigSep_erase' (Finset.mem_erase.mpr ⟨ne (by decide), own (.dma cc0_scratch4.sem) (by decide)⟩),
    SparseCore.bigSep_erase' (Finset.mem_erase.mpr ⟨ne (by decide), Finset.mem_erase.mpr ⟨ne (by decide), own (.dma cc0_scoped0.sem) (by decide)⟩⟩),
    SparseCore.bigSep_erase' (Finset.mem_erase.mpr ⟨ne (by decide), Finset.mem_erase.mpr ⟨ne (by decide), Finset.mem_erase.mpr ⟨ne (by decide), own (.dma cc0_scoped1.sem) (by decide)⟩⟩⟩),
    SparseCore.bigSep_erase' (Finset.mem_erase.mpr ⟨ne (by decide), Finset.mem_erase.mpr ⟨ne (by decide), Finset.mem_erase.mpr ⟨ne (by decide), Finset.mem_erase.mpr ⟨ne (by decide),
      own (.dma cc0_scoped2.sem) (by decide)⟩⟩⟩⟩)]
  exact ⟨_, rfl⟩

/-- The tile's three scratch buffers are among its own. -/
theorem ownBufs_tile : ∃ R : sProp 𝕄, (ownBufs (tile d L) : sProp 𝕄)
      = iprop((∃ f : S100x128.Idx → Elt F .i32, (listV).view.loc (tile d L) ↦{fullShare} f) ∗ (∃ f : S2x128x128.Idx → Elt F .f32, (rowsV).view.loc (tile d L) ↦{fullShare} f)
    ∗ (Acc d L) ∗ R) := by
  have own : ∀ b : Ref sig .scVector, ((Proc.scVector (cV L) (jV L)).devRef b).owner = .proc (Proc.scVector (cV L) (jV L)) → (Proc.scVector (cV L) (jV L)).devRef b ∈ ownRefs (τ := τ) (.scVector (cV L) (jV L)) :=
    fun b h => SparseCore.Cfg.mem_ownRefs_of_owner (p := Proc.scVector (cV L) (jV L)) (b := (Proc.scVector (cV L) (jV L)).devRef b) h
  have ne : ∀ {b b' : Ref sig .scVector}, b ≠ b' → (Proc.scVector (cV L) (jV L)).devRef b ≠ (Proc.scVector (cV L) (jV L)).devRef b' := fun h e => h (Proc.devRef_injective _ e)
  refine ⟨bigSep (((ownRefs (τ := τ) (.scVector (cV L) (jV L))).erase ((Proc.scVector (cV L) (jV L)).devRef cc0_scratch0)).erase
      ((Proc.scVector (cV L) (jV L)).devRef cc0_scratch1) |>.erase ((Proc.scVector (cV L) (jV L)).devRef cc0_scratch2)) fun b => iprop(∃ f, ((d, b) : Loc nD τ sig) ↦{fullShare} f), ?_⟩
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]
  unfold Acc
  rfl

end Tile

end Cert.KernelIdeal.Pool

end
-- ==== Proof.PoolIdeal.Launch.lean ====
/-
  The launch's protocol: what the call hands each SparseCore, what it hands each task, and the task proved as the
  launch asks it.
-/
module

public import proofs.«01_k».proof.Proof.PoolIdeal.Tasks

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ) (Ix : (d : Dev nD) → Buf (Elt F) (iLoc d))

/-- A task's part before the call: the output at its launch contents. -/
abbrev Before (d : Dev nD) (c : Fin 2) (i : Fin 16) : sProp 𝕄 := Task d (m (xLoc d)) (Ix d) (m (oLoc d)) (shareOf c i) (2 * i.val + c.val)
/-- A task's part after the call: the output at the pooled features. -/
abbrev After (d : Dev nD) (c : Fin 2) (i : Fin 16) : sProp 𝕄 := Task d (m (xLoc d)) (Ix d) (spec (m (xLoc d)) (Ix d)) (shareOf c i) (2 * i.val + c.val)

theorem nCore_zero : (K (F := F)).nCore 0 = 2 := rfl
theorem nSub_zero : (K (F := F)).nSub 0 = 16 := rfl

/-- The call takes each SparseCore its sixteen tasks' parts, and brings them back pooled. -/
def P : (K (F := F)).Pay (nD := nD) (Val := Elt F) (Name := ℕ) (U := UU) where
  st := fun q d c => match q with | 0 => bigSep Finset.univ fun i : Fin ((K (F := F)).nSub 0) => Before m Ix d (Fin.cast nCore_zero c) (Fin.cast nSub_zero i)
  dn := fun q d c => match q with | 0 => bigSep Finset.univ fun i : Fin ((K (F := F)).nSub 0) => After m Ix d (Fin.cast nCore_zero c) (Fin.cast nSub_zero i)
  go := fun q d c i => match q with | 0 => Before m Ix d (Fin.cast nCore_zero c) (Fin.cast nSub_zero i)
  td := fun q d c i => match q with | 0 => After m Ix d (Fin.cast nCore_zero c) (Fin.cast nSub_zero i)
  x := fun _ _ => iprop(emp)

instance P_storable : (P (F := F) m Ix).IsStorable where
  st q d c := match q with
    | 0 => (inferInstance : BI.Storable (upEmb : UEmb _ 𝕄) (bigSep Finset.univ fun i : Fin ((K (F := F)).nSub 0) => Before m Ix d (Fin.cast nCore_zero c) (Fin.cast nSub_zero i)))
  dn q d c := match q with
    | 0 => (inferInstance : BI.Storable (upEmb : UEmb _ 𝕄) (bigSep Finset.univ fun i : Fin ((K (F := F)).nSub 0) => After m Ix d (Fin.cast nCore_zero c) (Fin.cast nSub_zero i)))
  go q d c i := match q with
    | 0 => (inferInstance : BI.Storable (upEmb : UEmb _ 𝕄) (Before m Ix d (Fin.cast nCore_zero c) (Fin.cast nSub_zero i)))
  td q d c i := match q with
    | 0 => (inferInstance : BI.Storable (upEmb : UEmb _ 𝕄) (After m Ix d (Fin.cast nCore_zero c) (Fin.cast nSub_zero i)))

/-- What the proof asks of the index array the call reads: every word names a row of the features. -/
def IxOk : Prop := ∀ (d : Dev nD) (x : S32x100x128.Idx), (Ix d x).toNat < 50000

/-! ## The task -/

section Tile
variable (d : Dev nD) (L : grid0.Coords)

variable {X : Buf (Elt F) (xLoc d)} {I : Buf (Elt F) (iLoc d)} {f : Buf (Elt F) (oLoc d)} {q : PosShare TreeShare}
  {O : CellTallies nD τ sig (HIx 1)} {W : Waits sig (HIx 1)}

/-- What the launch hands a tile, as the body takes it. -/
theorem tile_enter {A B : sProp 𝕄} (hO : ∀ g, O g none = 0) :
    iprop(levAts (K (F := F)).L (K (F := F)).lev ∗ emp ∗ Task d X I f q (wid L)
      ∗ ((∃ f : S100x128.Idx → Elt F .i32, (listV).view.loc (tile d L) ↦{fullShare} f) ∗ (∃ f : S2x128x128.Idx → Elt F .f32, (rowsV).view.loc (tile d L) ↦{fullShare} f) ∗ (Acc d L) ∗ A)
      ∗ (semVal (tile d L, .dma cc0_scratch3.sem) 0 ∗ semVal (tile d L, .dma cc0_scratch4.sem) 0
        ∗ semVal (tile d L, .dma cc0_scoped0.sem) 0 ∗ semVal (tile d L, .dma cc0_scoped1.sem) 0 ∗ semVal (tile d L, .dma cc0_scoped2.sem) 0 ∗ B)
      ∗ owes (tile d L) O W)
      ⊢ iprop(Held d L X I O W q f ∗ (A ∗ B)) := by
  unfold Held Task Scratch Ow Plane Rows
  iintro ⟨#Hlv, -, ⟨Hi, Hx, Ho⟩, ⟨Hl, Hr, Ha, HA⟩, ⟨H3, H4, H0, H1, H2, HB⟩, HO⟩
  ihave Hmw := (show levAts (K (F := F)).L (K (F := F)).lev ⊢ Transfers.MayWaits (tile d L) (default : HIx 1) O from
    (K (F := F)).mayWaits_none (thr := tile d L) hO) $$ Hlv
  isplitr [HA HB]
  · isplitl [Hi Hx Ho]
    · isplitl [Hi]; · iexact Hi
      isplitl [Hx]; · iexact Hx
      iexact Ho
    isplitl [Hl Hr Ha H3 H4 H0 H1 H2]
    · isplitl [Hl]; · iexact Hl
      isplitl [Hr]; · iexact Hr
      isplitl [Ha]; · iexact Ha
      isplitl [H3]; · iexact H3
      isplitl [H4]; · iexact H4
      isplitl [H0]; · iexact H0
      isplitl [H1] <;> iassumption
    iexists W
    isplitr; · ipureintro; exact fun p hp => .inl hp
    isplitl [HO] <;> iassumption
  isplitl [HA] <;> iassumption

/-- What the body leaves, as the launch takes it back. -/
theorem tile_leave {A B : sProp 𝕄} {q' : Fin 1} :
    iprop(Held d L X I O W q f ∗ (A ∗ B)) ⊢ iprop(Task d X I f q (wid L)
      ∗ ((∃ f : S100x128.Idx → Elt F .i32, (listV).view.loc (tile d L) ↦{fullShare} f) ∗ (∃ f : S2x128x128.Idx → Elt F .f32, (rowsV).view.loc (tile d L) ↦{fullShare} f) ∗ (Acc d L) ∗ A)
      ∗ (semVal (tile d L, .dma cc0_scratch3.sem) 0 ∗ semVal (tile d L, .dma cc0_scratch4.sem) 0
        ∗ semVal (tile d L, .dma cc0_scoped0.sem) 0 ∗ semVal (tile d L, .dma cc0_scoped1.sem) 0 ∗ semVal (tile d L, .dma cc0_scoped2.sem) 0 ∗ B)
      ∗ ∃ W', ⌜∀ p ∈ W', p ∈ W ∨ p.2 = none ∨ p.2 = some q'⌝ ∗ owes (tile d L) O W') := by
  unfold Held Task Scratch Ow Plane Rows
  iintro ⟨⟨⟨Hi, Hx, Ho⟩, ⟨Hl, Hr, Ha, H3, H4, H0, H1, H2⟩, %W', %hW', HO, -⟩, HA, HB⟩
  isplitl [Hi Hx Ho]
  · isplitl [Hi]; · iexact Hi
    isplitl [Hx]; · iexact Hx
    iexact Ho
  isplitl [Hl Hr Ha HA]
  · isplitl [Hl]; · iexact Hl
    isplitl [Hr]; · iexact Hr
    isplitl [Ha] <;> iassumption
  isplitl [H3 H4 H0 H1 H2 HB]
  · isplitl [H3]; · iexact H3
    isplitl [H4]; · iexact H4
    isplitl [H0]; · iexact H0
    isplitl [H1]; · iexact H1
    isplitl [H2] <;> iassumption
  iexists W'
  isplitr; · ipureintro; exact fun p hp => (hW' p hp).imp_right Or.inl
  iexact HO

/-- The body at one tile, from and to the tile's own buffers and semaphores. -/
theorem tile_body {q' : Fin 1} (hF : (K (F := F)).Facts) (hok : ∀ x : S32x100x128.Idx, ((show S32x100x128.Idx → Elt F .i32 from I) x).toNat < 50000) (hO : ∀ g, O g none = 0) :
    iprop(levAts (K (F := F)).L (K (F := F)).lev ∗ emp ∗ Task d X I f q (wid L)
        ∗ scopedBufs (tile d L) ∗ scopedSems0 (tile d L) ∗ owes (tile d L) O W)
      ⊢ wp frame (wpE (defs₀ (F := F)) 𝒱₀ (tile d L) none) Set.univ
          (cc0__pool_body L featV (Memref.isWhole_whole _) idxV (Memref.isWhole_whole _) outV (Memref.isWhole_whole _) listV (Memref.isWhole_whole _)
            rowsV (Memref.isWhole_whole _) accV (Memref.isWhole_whole _) cc0_scratch3 cc0_scratch4 cc0_scoped0 cc0_scoped1 cc0_scoped2)
          fun _ => iprop(Task d X I (spec X I) q (wid L)
            ∗ scopedBufs (tile d L) ∗ scopedSems0 (tile d L)
            ∗ ∃ W', ⌜∀ p ∈ W', p ∈ W ∨ p.2 = none ∨ p.2 = some q'⌝ ∗ owes (tile d L) O W') := by
  obtain ⟨A, hA⟩ := ownBufs_tile (F := F) d L
  obtain ⟨B, hB⟩ := ownSems0_tile (F := F) d L
  rw [(K (F := F)).scopedBufs_V hF d (cV L) (jV L), SparseCore.Cfg.scopedSems0_V (Val := Elt F) d (cV L) (jV L), hA, hB]
  refine (tile_enter d L hO).trans ?_
  refine (sep_mono_l ((body (f := f) (fun x => hok _)).trans (Entails.of_eq (WP_eq _ _)))).trans ?_
  refine (wp_frame_r frame _ _).trans ?_
  exact wp_mono frame _ _ fun _ => tile_leave d L

end Tile

/-! ## The obligation -/

/-- The grid's coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pool_body (coordsV c s)
          featV (Memref.isWhole_whole _) idxV (Memref.isWhole_whole _) outV (Memref.isWhole_whole _) listV (Memref.isWhole_whole _)
            rowsV (Memref.isWhole_whole _) accV (Memref.isWhole_whole _) cc0_scratch3 cc0_scratch4 cc0_scoped0 cc0_scoped1 cc0_scoped2) ⟨⟩ c s := rfl

set_option maxRecDepth 16384 in
/-- Every task of the call meets the launch's obligation. -/
theorem tileObl (hF : (K (F := F)).Facts) (hok : IxOk Ix) : (K (F := F)).TileObl (D (F := F)) 𝒱 (P m Ix) v₀ 0 := by
  intro d c i O W hO _ _
  simp only [show (P m Ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (hok d) hO

theorem vecSplit : (K (F := F)).VecSplit' (P m Ix) 0 := by
  intro d c
  show (bigSep Finset.univ fun i : Fin ((K (F := F)).nSub 0) => Before m Ix d (Fin.cast nCore_zero c) (Fin.cast nSub_zero i)) ⊢ |={Set.univ}=> iprop(
      (bigSep Finset.univ fun i : Fin ((K (F := F)).nSub 0) => Before m Ix d (Fin.cast nCore_zero c) (Fin.cast nSub_zero i))
      ∗ ((bigSep Finset.univ fun i : Fin ((K (F := F)).nSub 0) => After m Ix d (Fin.cast nCore_zero c) (Fin.cast nSub_zero i))
        -∗ (bigSep Finset.univ fun i : Fin ((K (F := F)).nSub 0) => After m Ix d (Fin.cast nCore_zero c) (Fin.cast nSub_zero i))))
  iintro H; imodintro
  isplitl [H]; · iexact H
  iintro H; iexact H

end Cert.KernelIdeal.Pool

end
-- ==== Proof.PoolIdeal.Arrays.lean ====
/-
  The program's host operations: the index array padded and reshaped before the call, the result sliced after it; the
  arrays' contents at each point.
-/
module

public import proofs.«01_k».proof.Proof.PoolIdeal.Launch

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
open Idealize.ShloMosaic.StableHlo (held wp_hlo_within)

variable (m : (ℓ : Loc nD τ sig) → Buf (Elt F) ℓ)

abbrev a0Loc (d : Dev nD) : Loc nD τ sig := (SparseCore.T d).loc main_arg0
abbrev a2Loc (d : Dev nD) : Loc nD τ sig := (SparseCore.T d).loc main_arg2
abbrev rLoc (d : Dev nD) : Loc nD τ sig := (SparseCore.T d).loc main_v3

/-! ## The operations -/

abbrev a0' : DevRef τ sig := Proc.devRef .tc (main_arg0 : Ref sig .tc)
abbrev x' : DevRef τ sig := Proc.devRef .tc (main_arg1 : Ref sig .tc)
abbrev a2' : DevRef τ sig := Proc.devRef .tc (main_arg2 : Ref sig .tc)
abbrev c' : DevRef τ sig := Proc.devRef .tc (main_c : Ref sig .tc)
abbrev z' : DevRef τ sig := Proc.devRef .tc (main_call0_v0 : Ref sig .tc)
abbrev p' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opC : HloOp τ sig (Elt F) := StableHlo.nullary main_c (constantI S_ 32 0#32)
abbrev opZ : HloOp τ sig (Elt F) := StableHlo.TRef.unary (.of main_c : StableHlo.TRef sig ⟨S_, .i32⟩) (.of main_call0_v0 : StableHlo.TRef sig ⟨S_, .i32⟩) id
abbrev opP : HloOp τ sig (Elt F) := StableHlo.TRef.binary (.of main_arg2 : StableHlo.TRef sig ⟨S25000x16, .i32⟩) (.of main_call0_v0 : StableHlo.TRef sig ⟨S_, .i32⟩)
  (.of main_v0 : StableHlo.TRef sig ⟨S25600x16, .i32⟩) (fun x v => pad S25600x16 ![0, 0] ![600, 0] ![0, 0] x v pads_S25000x16_S25600x16_06000_000 h_S_)
abbrev opR : HloOp τ sig (Elt F) := StableHlo.reshape main_v0 main_v1 (rfl : (.i32 : EltTy) = .i32) shapeCasts_S25600x16_S32x100x128
abbrev opS : HloOp τ sig (Elt F) := StableHlo.unary main_v2 main_v3
  ((extractStridedSlice S25000x128 ![0, 0] · slices_S25600x128_S25000x128_0_0) : (⟨S25600x128, .f32⟩ : BufTy).Contents (Elt F) → (⟨S25000x128, .f32⟩ : BufTy).Contents (Elt F))

/-- The program's arrays, all of them unscoped. -/
abbrev S9 : Finset (DevRef τ sig) := {a0', x', a2', c', z', p', i', o', r'}

theorem hC : (opC (F := F)).bufs ⊆ S9 := show ({c'} : Finset (DevRef τ sig)) ⊆ S9 by decide
theorem hZ : (opZ (F := F)).bufs ⊆ S9 := show ({c', z'} : Finset (DevRef τ sig)) ⊆ S9 by decide
theorem hP : (opP (F := F)).bufs ⊆ S9 := show ({a2', z', p'} : Finset (DevRef τ sig)) ⊆ S9 by decide
theorem hR : (opR (F := F)).bufs ⊆ S9 := show ({p', i'} : Finset (DevRef τ sig)) ⊆ S9 by decide
theorem hS : (opS (F := F)).bufs ⊆ S9 := show ({o', r'} : Finset (DevRef τ sig)) ⊆ S9 by decide

/-! ## The arrays' contents -/

def V0 (d : Dev nD) : Valuation τ sig (Elt F) := fun b => m (d, b)
def V1 (d : Dev nD) : Valuation τ sig (Elt F) := (opC (F := F)).result (V0 m d)
def V2 (d : Dev nD) : Valuation τ sig (Elt F) := (opZ (F := F)).result (V1 m d)
def V3 (d : Dev nD) : Valuation τ sig (Elt F) := (opP (F := F)).result (V2 m d)
/-- Before the call. -/
def V4 (d : Dev nD) : Valuation τ sig (Elt F) := (opR (F := F)).result (V3 m d)

/-- An array that none of the first four operations writes is at its launch contents. -/
theorem V4_kept (d : Dev nD) (b : DevRef τ sig) (hc : b ∉ ({c'} : Finset (DevRef τ sig))) (hz : b ∉ ({z'} : Finset (DevRef τ sig)))
    (hp : b ∉ ({p'} : Finset (DevRef τ sig))) (hi : b ∉ ({i'} : Finset (DevRef τ sig))) : V4 m d b = m (d, b) := by
  unfold V4 V3 V2 V1
  rw [(opR (F := F)).result_of_not_mem _ (show b ∉ (opR (F := F)).writes from hi), (opP (F := F)).result_of_not_mem _ (show b ∉ (opP (F := F)).writes from hp),
    (opZ (F := F)).result_of_not_mem _ (show b ∉ (opZ (F := F)).writes from hz), (opC (F := F)).result_of_not_mem _ (show b ∉ (opC (F := F)).writes from hc)]
  rfl

/-- The index array the call reads: the neighbour list padded with zeros to 25600 rows, in the tasks' layout. -/
def Ids (d : Dev nD) : Buf (Elt F) (iLoc d) :=
  shapeCast S32x100x128 (pad S25600x16 ![0, 0] ![600, 0] ![0, 0] (m (a2Loc d) : S25000x16.Idx → BitVec 32) (constantI S_ 32 0#32) pads_S25000x16_S25600x16_06000_000 h_S_)
    shapeCasts_S25600x16_S32x100x128

theorem V1_c (d : Dev nD) : V1 m d c' = constantI S_ 32 0#32 := StableHlo.nullary_result _ _ _ _
theorem V2_z (d : Dev nD) : V2 m d z' = constantI S_ 32 0#32 := (StableHlo.unary_result _ _ _ _ _ _).trans (V1_c m d)
theorem V2_a (d : Dev nD) : V2 m d a2' = m (a2Loc d) := by
  unfold V2 V1
  rw [(opZ (F := F)).result_of_not_mem _ (show a2' ∉ (opZ (F := F)).writes from (by decide : a2' ∉ ({z'} : Finset (DevRef τ sig)))),
    (opC (F := F)).result_of_not_mem _ (show a2' ∉ (opC (F := F)).writes from (by decide : a2' ∉ ({c'} : Finset (DevRef τ sig))))]
  rfl
theorem V3_p (d : Dev nD) : V3 m d p' = pad S25600x16 ![0, 0] ![600, 0] ![0, 0] (m (a2Loc d) : S25000x16.Idx → BitVec 32) (constantI S_ 32 0#32) pads_S25000x16_S25600x16_06000_000 h_S_ :=
  (StableHlo.binary_result _ _ _ _ _ _ _ _).trans (by
    show pad S25600x16 ![0, 0] ![600, 0] ![0, 0] (V2 m d a2' : S25000x16.Idx → BitVec 32) (V2 m d z') pads_S25000x16_S25600x16_06000_000 h_S_ = _
    rw [V2_a, V2_z])
theorem V4_i (d : Dev nD) : V4 m d i' = Ids m d :=
  (StableHlo.reshape_result _ _ _ _ _ _ _).trans (by
    show shapeCast S32x100x128 (V3 m d p') _ = _
    rw [V3_p]; rfl)

/-- After the call: the output pooled. -/
def V5 (d : Dev nD) : Valuation τ sig (Elt F) := Function.update (V4 m d) o' (spec (m (xLoc d)) (Ids m d))
/-- The result: the output's first 25000 rows. -/
def Res (d : Dev nD) : Buf (Elt F) (rLoc d) :=
  extractStridedSlice S25000x128 ![0, 0] (spec (m (xLoc d)) (Ids m d)) slices_S25600x128_S25000x128_0_0

theorem V5_o (d : Dev nD) : V5 m d o' = spec (m (xLoc d)) (Ids m d) := Function.update_self _ _ _
theorem V5_kept (d : Dev nD) (b : DevRef τ sig) (h : b ≠ o') : V5 m d b = V4 m d b := Function.update_of_ne h _ _

theorem V6_r (d : Dev nD) : (opS (F := F)).result (V5 m d) r' = Res m d :=
  (StableHlo.unary_result _ _ _ _ _ _).trans (by
    show extractStridedSlice S25000x128 ![0, 0] (V5 m d o') _ = _
    rw [V5_o]; rfl)
theorem V6_kept (d : Dev nD) (b : DevRef τ sig) (h : b ∉ ({r'} : Finset (DevRef τ sig))) : (opS (F := F)).result (V5 m d) b = V5 m d b :=
  (opS (F := F)).result_of_not_mem _ h

/-! ## The arrays held -/

theorem held_S9 (d : Dev nD) (W : Valuation τ sig (Elt F)) :
    (held (T d) S9 W : sProp 𝕄)
      = iprop((((d, a0') : Loc nD τ sig) ↦{fullShare} W a0') ∗ (((d, x') : Loc nD τ sig) ↦{fullShare} W x') ∗ (((d, a2') : Loc nD τ sig) ↦{fullShare} W a2')
        ∗ (((d, c') : Loc nD τ sig) ↦{fullShare} W c') ∗ (((d, z') : Loc nD τ sig) ↦{fullShare} W z') ∗ (((d, p') : Loc nD τ sig) ↦{fullShare} W p')
        ∗ (((d, i') : Loc nD τ sig) ↦{fullShare} W i') ∗ (((d, o') : Loc nD τ sig) ↦{fullShare} W o') ∗ (((d, r') : Loc nD τ sig) ↦{fullShare} W r')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S9 (V0 m d) := by
  unfold unscopedBufs
  rw [show (Finset.univ.filter fun b : Ref sig .tc => ¬ b.isScoped) = {main_arg0, main_arg1, main_arg2, main_c, main_call0_v0, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton, held_S9]
  rfl

/-- What the call leaves with the TensorCore: the arrays it does not name. -/
def Others (d : Dev nD) : sProp 𝕄 :=
  iprop((((d, a0') : Loc nD τ sig) ↦{fullShare} V4 m d a0') ∗ (((d, a2') : Loc nD τ sig) ↦{fullShare} V4 m d a2')
        ∗ (((d, c') : Loc nD τ sig) ↦{fullShare} V4 m d c') ∗ (((d, z') : Loc nD τ sig) ↦{fullShare} V4 m d z') ∗ (((d, p') : Loc nD τ sig) ↦{fullShare} V4 m d p')
        ∗ (((d, r') : Loc nD τ sig) ↦{fullShare} V4 m d r'))

/-- The arrays before the call: the call's three, and the others. -/
theorem held_call (d : Dev nD) : (held (T d) S9 (V4 m d) : sProp 𝕄)
    ⊢ iprop(((iLoc d ↦{fullShare} Ids m d) ∗ (xLoc d ↦{fullShare} m (xLoc d)) ∗ (oLoc d ↦{fullShare} m (oLoc d))) ∗ Others m d) := by
  rw [held_S9, V4_kept m d x' (by decide) (by decide) (by decide) (by decide), V4_kept m d o' (by decide) (by decide) (by decide) (by decide), V4_i]
  unfold Others
  iintro ⟨Ha0, Hx, Ha2, Hc, Hz, Hp, Hi, Ho, Hr⟩
  isplitl [Hi Hx Ho]
  · isplitl [Hi]; · iexact Hi
    isplitl [Hx]; · iexact Hx
    iexact Ho
  isplitl [Ha0]; · iexact Ha0
  isplitl [Ha2]; · iexact Ha2
  isplitl [Hc]; · iexact Hc
  isplitl [Hz]; · iexact Hz
  isplitl [Hp] <;> iassumption

/-- The arrays after the call, together again. -/
theorem held_called (d : Dev nD) : iprop(((iLoc d ↦{fullShare} Ids m d) ∗ (xLoc d ↦{fullShare} m (xLoc d)) ∗ (oLoc d ↦{fullShare} spec (m (xLoc d)) (Ids m d))) ∗ Others m d)
    ⊢ (held (T d) S9 (V5 m d) : sProp 𝕄) := by
  rw [held_S9, V5_o, V5_kept m d a0' (by decide), V5_kept m d x' (by decide), V5_kept m d a2' (by decide), V5_kept m d c' (by decide), V5_kept m d z' (by decide),
    V5_kept m d p' (by decide), V5_kept m d i' (by decide), V5_kept m d r' (by decide), V4_kept m d x' (by decide) (by decide) (by decide) (by decide), V4_i]
  unfold Others
  iintro ⟨⟨Hi, Hx, Ho⟩, Ha0, Ha2, Hc, Hz, Hp, Hr⟩
  isplitl [Ha0]; · iexact Ha0
  isplitl [Hx]; · iexact Hx
  isplitl [Ha2]; · iexact Ha2
  isplitl [Hc]; · iexact Hc
  isplitl [Hz]; · iexact Hz
  isplitl [Hp]; · iexact Hp
  isplitl [Hi]; · iexact Hi
  isplitl [Ho] <;> iassumption

/-- What the claims read at the end: the arguments at their launch contents, the result. -/
def Fin9 (d : Dev nD) : sProp 𝕄 :=
  iprop((a0Loc d ↦{fullShare} m (a0Loc d)) ∗ ((xLoc d) ↦{fullShare} m (xLoc d))
    ∗ (a2Loc d ↦{fullShare} m (a2Loc d)) ∗ (rLoc d ↦{fullShare} Res m d))

/-- The arrays after the slice hold what the claims read. -/
theorem held_end (d : Dev nD) : (held (T d) S9 ((opS (F := F)).result (V5 m d)) : sProp 𝕄) ⊢ Fin9 m d := by
  rw [held_S9, V6_r, V6_kept m d a0' (by decide), V6_kept m d x' (by decide), V6_kept m d a2' (by decide), V5_kept m d a0' (by decide), V5_kept m d x' (by decide),
    V5_kept m d a2' (by decide), V4_kept m d a0' (by decide) (by decide) (by decide) (by decide), V4_kept m d x' (by decide) (by decide) (by decide) (by decide),
    V4_kept m d a2' (by decide) (by decide) (by decide) (by decide)]
  unfold Fin9
  iintro ⟨Ha0, Hx, Ha2, -, -, -, -, -, Hr⟩
  isplitl [Ha0]; · iexact Ha0
  isplitl [Hx]; · iexact Hx
  isplitl [Ha2]; · iexact Ha2
  iexact Hr

end Cert.KernelIdeal.Pool

end
-- ==== Proof.PoolIdeal.Main.lean ====
/-
  The program's run: every execution ends, the arguments unchanged, the result at the pooled features, every semaphore
  at zero.
-/
module

public import proofs.«01_k».proof.Proof.PoolIdeal.Arrays

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
open Idealize.ShloMosaic.StableHlo (held wp_hlo_within)

variable (m : (ℓ : Loc nD τ sig) → Buf (Elt F) ℓ) (ρ : Dev nD → PrngReg)

/-- The protocol at this memory. -/
abbrev Pm : (K (F := F)).Pay (nD := nD) (Val := Elt F) (Name := ℕ) (U := UU) := P m (Ids m)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## @main on the TensorCore -/

/-- The call takes the three arrays whole. -/
theorem st0_eq (d : Dev nD) : (bigSep Finset.univ fun c : Fin ((K (F := F)).nCore 0) => (Pm m).st 0 d c)
    = iprop((iLoc d ↦{fullShare} Ids m d) ∗ (xLoc d ↦{fullShare} m (xLoc d)) ∗ (oLoc d ↦{fullShare} m (oLoc d))) :=
  (tasks_eq d (m (xLoc d)) (Ids m d) (m (oLoc d))).symm

/-- The call brings them back, the output pooled. -/
theorem dn0_eq (d : Dev nD) : (bigSep Finset.univ fun c : Fin ((K (F := F)).nCore 0) => (Pm m).dn 0 d c)
    = iprop((iLoc d ↦{fullShare} Ids m d) ∗ (xLoc d ↦{fullShare} m (xLoc d)) ∗ (oLoc d ↦{fullShare} spec (m (xLoc d)) (Ids m d))) :=
  (tasks_eq d (m (xLoc d)) (Ids m d) (spec (m (xLoc d)) (Ids m d))).symm

/-- @main on device `d`'s TensorCore: the padding and the reshape, the call, the slice. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Fin9 m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opC) (S := S9) hC (V := V0 m d)) $$ [Hb Hheld]
  · isplitl [Hb] <;> iassumption
  iintro ⟨Hb, Hheld⟩
  rw [wp_ret]; imodintro
  iapply (wp_hlo_within 𝒱 (SparseCore.T d) none Set.univ (op := opZ) (S := S9) hZ (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opP) (S := S9) hP (V := V2 m d)) $$ [Hb Hheld]
  · isplitl [Hb]; · iexact Hb
    iexact Hheld
  iintro ⟨Hb, Hheld⟩
  rw [wp_ret]; imodintro
  imodintro
  iapply (wp_hlo_within 𝒱 (SparseCore.T d) none Set.univ (op := opR) (S := S9) hR (V := V3 m d)) $$ [Hb Hheld]
  · isplitl [Hb]; · iexact Hb
    iexact Hheld
  iintro ⟨Hb, Hheld⟩
  rw [wp_ret]; imodintro
  ihave Hh := (show (held (T d) S9 ((opR (F := F)).result (V3 m d)) : sProp 𝕄) ⊢ _ from held_call (F := F) m d) $$ Hheld
  icases Hh with ⟨Hops, Hoth⟩
  iapply ((K (F := F)).wp_run (D (F := F)) 𝒱 (EH := EH) (P := Pm m) κ d 0) $$ [Hst Hops Hoth Hb Hts]
  isplitr; · iexact Hctx
  isplitl [Hst]; · iexact Hst
  isplitl [Hops]
  · rw [st0_eq]; iexact Hops
  iintro ⟨Hst, Hdn⟩
  ihave Hdn' := (Entails.of_eq (dn0_eq m d)) $$ Hdn
  ihave Hheld := (held_called (F := F) m d) $$ [Hdn' Hoth]
  · isplitl [Hdn'] <;> iassumption
  iapply (wp_hlo_within 𝒱 (SparseCore.T d) none Set.univ (op := opS) (S := S9) hS (V := V5 m d)) $$ [Hb Hheld]
  · isplitl [Hb] <;> iassumption
  iintro ⟨Hb, Hheld⟩
  ihave Hfin := (held_end (F := F) m d) $$ Hheld
  rw [wp_ret]; imodintro; imodintro
  isplitl [Hst]; · iexact Hst
  isplitl [Hfin]; · iexact Hfin
  isplitl [Hb] <;> iassumption

/-! ## The run -/

/-- What the claims read of device `d`'s final memory. -/
def fq (d : Dev nD) (s' : Phys nD τ sig (Elt F)) : Prop :=
  s'.mem.mem (a0Loc d) = m (a0Loc d) ∧ s'.mem.mem (xLoc d) = m (xLoc d) ∧ s'.mem.mem (a2Loc d) = m (a2Loc d) ∧ s'.mem.mem (rLoc d) = Res m d

set_option maxRecDepth 16384 in
theorem hfin (d : Dev nD) (s' : Phys nD τ sig (Elt F)) : iprop(Fin9 m d ∗ SI s') ⊢ (⌜fq m d s'⌝ : sProp 𝕄) := by
  unfold Fin9
  iintro ⟨⟨Ha0, Hx, Ha2, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (SI_pointsTo_agree (st := s') (ℓ := rLoc d) (I := Finset.univ) (q := fullShare) (f := Res m d)) $$ [HSI Hr]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-- What the run ends in. -/
def QC : PUnit × MemSt nD τ sig (Elt F) → Prop := fun r =>
  (∀ c : Dev nD, r.2.mem (a0Loc c) = m (a0Loc c) ∧ r.2.mem (xLoc c) = m (xLoc c) ∧ r.2.mem (a2Loc c) = m (a2Loc c) ∧ r.2.mem (rLoc c) = Res m c) ∧ r.2.sem = fun _ => 0

/-- Every execution of the program ends in `QC`, every word of the index array being a row of the features. -/
theorem run_main [∀ e, Nonempty (Elt F e)] (hok : IxOk (Ids m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) launchFacts v₀
    (fun q hq => match q with | 0 => nomatch hq)
    (fun q _ => match q with | 0 => tileObl m (Ids m) launchFacts hok)
    (fun q _ => match q with | 0 => SparseCore.Cfg.VecSplit.of_plain (vecSplit m (Ids m)))
    m ρ main (fun _ => iprop(emp)) (Fin9 m) (u₀ (F := F)) (sep_elim_left.trans (hu₀ m)) (hmain m ρ) (fq m) (hfin m) (QC m) (fun _ h hz => ⟨h, hz⟩)

end Cert.KernelIdeal.Pool

end
-- ==== Proof.PoolIdeal.Frame.lean ====
/-
  The frame of the program: under the precondition every execution ends with the arguments unchanged and every
  semaphore at zero.
-/
module

public import proofs.«01_k».proof.Proof.PoolIdeal.Main
public import proofs.«01_k».proof.Proof.Value.Words
public import proofs.«01_k».proof.Defs

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-- The precondition gives that every word of the padded list names a row of the features. -/
theorem ok_of_small (m : (ℓ : Loc nD τ sig) → Buf (Elt F) ℓ) (h : ∀ (d : Dev nD) (j : S25000x16.Idx), ((m (a2Loc d) : S25000x16.Idx → BitVec 32) j).toNat < 50000) : IxOk (Ids m) :=
  fun d x => Cert.Value.padded_small _ _ _ _ _ _ _ _ _ (h d) x

/-- The frame claim. -/
theorem frame : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (ok_of_small m fun d j => Cert.Value.words_small _ _ _ (hpre d) j))

end Cert.KernelIdeal.Pool

end
-- ==== Proof.Value.Reference.lean ====
/-
  The reference's frame, and its result at an index: with every word of the neighbour list below 50000 the mask of
  the take is all ones, the gather reads the named row, and the reduction is the fold of `max` over the sixteen rows.
-/
module

public import proofs.«01_k».proof.Defs
public import proofs.«01_k».proof.Proof.Gen.ReferenceIdeal
public import proofs.«01_k».proof.Proof.Gen.ReferenceIdeal.Run
public import proofs.«01_k».proof.Proof.Gen.Pre_in_range
public import proofs.«01_k».proof.Proof.Value.Words
public import Idealize.ShloMosaic.PureOps.Ideal.Laws
public import Idealize.ShloMosaic.Lib.Pipeline.Value

@[expose] public section

noncomputable section

namespace Cert.ReferenceIdeal.Value

open Cert.ReferenceIdeal Cert.ReferenceIdeal.Gen Idealize.ShloMosaic Idealize.SL.Sem

/-- The reference's frame: it ends with the arguments unchanged; it has no semaphores. -/
theorem frame_any (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (run (F := Ideal) m ρ)

theorem frame : Cert.quiescent_ReferenceIdeal := fun m ρ _ => frame_any m ρ
theorem frame_in_range : Cert.quiescent_ReferenceIdeal_pre_in_range := fun m ρ _ => frame_any m ρ

/-- The words a row lookup starts from: a negative word counts from the end. -/
def wrapped (A : S25000x16.Idx → BitVec 32) : S25000x16x1.Idx → BitVec 32 :=
  broadcastInDim S25000x16x1 ![0, 1] bcast_S25000x16_S25000x16x1_0_1
    (select (cmpi .slt A (broadcastInDim S25000x16 ![] bcast_S_S25000x16 (constantI S_ 32 0#32)))
      (addi A (broadcastInDim S25000x16 ![] bcast_S_S25000x16 (constantI S_ 32 50000#32))) A)

/-- Neighbour `k` of point `p` in the list. -/
def nx (p : Fin 25000) (k : Fin 16) : S25000x16.Idx := fun a => match a with | 0 => p | 1 => k

/-- Row `r`, lane `c` of the features. -/
def fx (r : Fin 50000) (c : Fin 128) : S50000x128.Idx := fun a => match a with | 0 => r | 1 => c

/-- A small word is its own start. -/
theorem wrapped_apply (A : S25000x16.Idx → BitVec 32) (hA : ∀ j, (A j).toNat < 50000) (z : S25000x16x1.Idx) : wrapped A z = A (nx (z 0) (z 1)) := by
  refine (broadcastInDim_apply _ _ _ z (nx (z 0) (z 1)) ?_).trans ?_
  · intro a
    match a with
    | 0 => rfl
    | 1 => rfl
  · have h := hA (nx (z 0) (z 1))
    show Scalar.select (IntOp.cmpi .slt (A (nx (z 0) (z 1))) 0#32) _ _ = _
    have e : IntOp.cmpi .slt (A (nx (z 0) (z 1))) 0#32 = 0#1 := by
      have : ¬ (A (nx (z 0) (z 1))).toInt < 0 := by rw [BitVec.toInt_eq_toNat_cond]; omega
      simp [IntOp.cmpi, BitVec.slt_eq_decide, this]
    rw [e]
    rfl

/-- The take's test of a start word: between 0 and 49999. -/
theorem start_ok (v : BitVec 32) (h : v.toNat < 50000) : IntOp.andi (IntOp.cmpi .sge v 0#32) (IntOp.cmpi .sle v 49999#32) = 1#1 := by
  simp only [IntOp.cmpi, Cert.Value.andi_ofBool, Cert.Value.ofBool_eq_one, Bool.and_eq_true, BitVec.sle_eq_decide,
    decide_eq_true_eq, BitVec.toInt_eq_toNat_cond, BitVec.toNat_ofNat, Nat.reducePow, Nat.reduceMod]
  omega

/-- The gather at `(p, k, c)` reads lane `c` of the row its start word names, clamped to the last row. -/
theorem gather_apply {α : Type} (X : S50000x128.Idx → α) (J : IVec S25000x16x1 32) (y : S25000x16x128.Idx) (z : S25000x16x1.Idx)
    (h0 : z 0 = y 0) (h1 : z 1 = y 1) (r : Fin 50000) (hr : min (J z).toInt.toNat 49999 = r.val) :
    Host.gather gather_S50000x128_S25000x16x1_S25000x16x128_2_0_n_n_0_2_1128 X J y = X (fx r (y 2)) := by
  unfold Host.gather
  refine congrArg X (funext fun a => Fin.ext ?_)
  generalize hd : gather_S50000x128_S25000x16x1_S25000x16x128_2_0_n_n_0_2_1128 = D
  show D.start y J a + D.batchCoord y a + D.offCoord y a = _
  subst hd
  match a with
  | 0 =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GatherDims.startIndexMap gather_S50000x128_S25000x16x1_S25000x16x128_2_0_n_n_0_2_1128 from List.mem_singleton.mpr rfl)]
    have hz : ∀ q, GatherDims.siIdx gather_S50000x128_S25000x16x1_S25000x16x128_2_0_n_n_0_2_1128 y q = z := fun q => by
      funext b
      match b with
      | 0 => exact h0.symm
      | 1 => exact h1.symm
      | 2 => exact Subsingleton.elim (α := Fin 1) _ _
    rw [hz]
    exact hr
  | 1 =>
    rw [GatherDims.batchCoord_eq_zero _ _ _ List.not_mem_nil]
    unfold GatherDims.start
    rw [dif_neg (by decide)]
    show 0 + 0 + GatherDims.offCoord _ y 1 = (y 2).val
    exact (Nat.zero_add _).trans rfl

/-- The masked take of the features. -/
def taken (X : S50000x128.Idx → Ideal .f32) (A : S25000x16.Idx → BitVec 32) : S25000x16x128.Idx → Ideal .f32 :=
  select (broadcastInDim S25000x16x128 ![0, 1] bcast_S25000x16_S25000x16x128_0_1
      (Host.reduce IntOp.andi (andi (cmpi .sge (wrapped A) (broadcastInDim S25000x16x1 ![] bcast_S_S25000x16x1 (constantI S_ 32 0#32)))
        (cmpi .sle (wrapped A) (broadcastInDim S25000x16x1 ![0, 1, 2] bcast_S1x1x1_S25000x16x1_0_1_2
          (broadcastInDim S1x1x1 ![2] bcast_S1_S1x1x1_2 (constantI S1 32 49999#32)))))
        (constantI S_ 1 1#1) reducesTo_S25000x16x1_S25000x16_d2 h_S_))
    (Host.gather gather_S50000x128_S25000x16x1_S25000x16x128_2_0_n_n_0_2_1128 X (wrapped A))
    (broadcastInDim S25000x16x128 ![] bcast_S_S25000x16x128 (constant S_ .f32 0x7FC00000#32))

/-- With every word below 50000 the take at `(p, k, c)` is lane `c` of the row that neighbour `k` of `p` names. -/
theorem taken_apply (X : S50000x128.Idx → Ideal .f32) (A : S25000x16.Idx → BitVec 32) (hA : ∀ j, (A j).toNat < 50000) (y : S25000x16x128.Idx) :
    taken X A y = X (fx ⟨(A (nx (y 0) (y 1))).toNat, hA _⟩ (y 2)) := by
  let z : S25000x16x1.Idx := fun a => match a with
    | 0 => y 0
    | 1 => y 1
    | 2 => ⟨0, Nat.one_pos⟩
  unfold taken
  show Scalar.select (Host.reduce IntOp.andi _ _ _ _ _) (Host.gather _ X (wrapped A) y) _ = _
  rw [Host.reduce_andi_one _ _ _ _ _ rfl (fun i => by
    show IntOp.andi (IntOp.cmpi .sge (wrapped A i) 0#32) (IntOp.cmpi .sle (wrapped A i) 49999#32) = 1#1
    rw [wrapped_apply A hA]
    exact start_ok _ (hA _))]
  show Host.gather _ X (wrapped A) y = _
  refine gather_apply X _ y z rfl rfl _ ?_
  rw [wrapped_apply A hA]
  have h := hA (nx (y 0) (y 1))
  show min (A (nx (y 0) (y 1))).toInt.toNat 49999 = (A (nx (y 0) (y 1))).toNat
  rw [BitVec.toInt_eq_toNat_cond]; omega

/-- The reference's result. -/
def Out (X : S50000x128.Idx → Ideal .f32) (A : S25000x16.Idx → BitVec 32) : S25000x128.Idx → Ideal .f32 :=
  Host.reduce FloatOps.maximumf (taken X A) (constant S_ .f32 0xFF800000#32) reducesTo_S25000x16x128_S25000x128_d1 h_S_

/-- The reference's run: it ends at its result of the features and the list, the arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Out (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2⟩) (run (F := Ideal) m ρ)

/-- Minus infinity is below every value. -/
theorem start_le (x : Ideal .f32) : (FloatOps.ofBits .f32 0xFF800000#32 : Ideal .f32) ≤ x := by
  show (Ideal.ofBits .f32 0xFF800000#32 : EReal) ≤ x
  simp [Ideal.ofBits, Ideal.ieee]

/-- The reference's result at `(p, c)` is below `b` exactly when lane `c` of each of the sixteen named rows is. -/
theorem Out_le (X : S50000x128.Idx → Ideal .f32) (A : S25000x16.Idx → BitVec 32) (hA : ∀ j, (A j).toNat < 50000) (y : S25000x128.Idx) (b : EReal) :
    (Out X A y : EReal) ≤ b ↔ ∀ k : Fin 16, (X (fx ⟨(A (nx (y 0) k)).toNat, hA _⟩ (y 1)) : EReal) ≤ b := by
  have e : (Out X A y : EReal) = (Finset.univ.filter fun i => reducesTo_S25000x16x128_S25000x128_d1.drop i = y).fold max
      (FloatOps.ofBits .f32 0xFF800000#32 : Ideal .f32) (taken X A) := Host.reduce_eq_fold (FloatOps.maximumf (F := Ideal) (φ := .f32)) _ _ _ _ _
  rw [e, Finset.fold_max_le]
  constructor
  · rintro ⟨-, h⟩ k
    let i : S25000x16x128.Idx := fun a => match a with
      | 0 => y 0
      | 1 => k
      | 2 => y 1
    have hi := h i (Finset.mem_filter.mpr ⟨Finset.mem_univ _, funext fun a => Fin.ext (by
      match a with
      | 0 => exact Shape.ReducesTo.drop_apply_val_of_eq _ i 0 0
      | 1 => exact Shape.ReducesTo.drop_apply_val_of_eq _ i 1 2)⟩)
    rwa [taken_apply X A hA] at hi
  · refine fun h => ⟨start_le b, fun i hi => ?_⟩
    have hd := (Finset.mem_filter.mp hi).2
    have h0 : y 0 = i 0 := Fin.ext (by rw [← hd]; exact Shape.ReducesTo.drop_apply_val_of_eq _ i 0 0)
    have h1 : y 1 = i 2 := Fin.ext (by rw [← hd]; exact Shape.ReducesTo.drop_apply_val_of_eq _ i 1 2)
    have hk := h (i 1)
    rw [taken_apply X A hA]
    rwa [h0, h1] at hk

end Cert.ReferenceIdeal.Value

end
-- ==== Proof.Value.Kernel.lean ====
/-
  The kernel's result at an index: row `p`, lane `c` is the maximum over the sixteen rows of the features that row `p`
  of the neighbour list names.
-/
module

public import proofs.«01_k».proof.Proof.PoolIdeal.Main
public import Idealize.ShloMosaic.Lib.KernelVsHost

@[expose] public section

noncomputable section

namespace Cert.KernelIdeal.Pool

open Cert.KernelIdeal Cert.KernelIdeal.Gen Idealize.ShloMosaic

variable {F : FTy → Type} [FloatOps F]

/-- Neighbour `k` of point `p` in the list. -/
def nx (p : Fin 25000) (k : Fin 16) : S25000x16.Idx := fun a => match a with | 0 => p | 1 => k

/-- The padded and reshaped list at the place where the pooling looks for neighbour `k` of point `p`. -/
theorem padded_apply (A : S25000x16.Idx → BitVec 32) (p : Fin 25000) (k : Fin 16) :
    shapeCast S32x100x128 (pad S25600x16 ![0, 0] ![600, 0] ![0, 0] A (constantI S_ 32 0#32) pads_S25000x16_S25600x16_06000_000 h_S_)
      shapeCasts_S25600x16_S32x100x128 (ix (p.val / 800) (p.val % 800 / 8) (16 * (p.val % 8) + k.val)) = A (nx p k) := by
  have hp := p.isLt
  have hk := k.isLt
  let z : S25600x16.Idx := fun a => match a with
    | 0 => ⟨p.val, by show p.val < 25600; omega⟩
    | 1 => k
  refine (shapeCast_apply _ _ _ z ?_).trans (pad_apply_of_inside ![0, 0] ![600, 0] ![0, 0] A _ _ _ z (nx p k) ?_)
  · rw [Shape.rowMajor_val_two, Shape.rowMajor_val_three]
    show p.val * 16 + k.val = (p.val / 800 % 32 * 100 + p.val % 800 / 8 % 100) * 128 + (16 * (p.val % 8) + k.val) % 128
    omega
  · intro a
    match a with
    | 0 => show p.val = 0 + p.val * (0 + 1); omega
    | 1 => show k.val = 0 + k.val * (0 + 1); omega

/-- The kernel's result at row `p`, lane `c`. -/
theorem Res_apply (m : (ℓ : Loc nD τ sig) → Buf (Elt F) ℓ) (d : Dev nD) (y : S25000x128.Idx) :
    (Res m d : S25000x128.Idx → F .f32) y
      = tree fun k => (m (xLoc d) : S50000x128.Idx → F .f32) (fx ((m (a2Loc d) : S25000x16.Idx → BitVec 32) (nx (y 0) k)).toNat (y 1).val) := by
  have h0 : (y 0).val < 25000 := (y 0).isLt
  let z : S25600x128.Idx := fun a => match a with
    | 0 => ⟨(y 0).val, by show (y 0).val < 25600; omega⟩
    | 1 => y 1
  refine (extractStridedSlice_apply _ _ _ y z ?_).trans ?_
  · intro a
    match a with
    | 0 => show (y 0).val = 0 + (y 0).val; omega
    | 1 => show (y 1).val = 0 + (y 1).val; omega
  · show tree _ = tree _
    refine congrArg tree (funext fun k => ?_)
    exact congrArg (fun w : BitVec 32 => (m (xLoc d) : S50000x128.Idx → F .f32) (fx w.toNat (y 1).val)) (padded_apply _ (y 0) k)

end Cert.KernelIdeal.Pool

end
-- ==== Proof.Value.Algebra.lean ====
/-
  The algebraic claim: under the precondition the kernel over the extended reals and the reference end at the same
  result, the maximum over the sixteen neighbours of each point, lane by lane.
-/
module

public import proofs.«01_k».proof.Proof.Value.Kernel
public import proofs.«01_k».proof.Proof.Value.Reference
public import proofs.«01_k».proof.Proof.PoolIdeal.Frame

@[expose] public section

noncomputable section

namespace Cert.Value

open Idealize.ShloMosaic Idealize.SL.Sem
open Cert.KernelIdeal.Pool (tree Res Ids a2Loc xLoc)

/-- The pairwise maximum of sixteen values is below `b` exactly when all sixteen are. -/
theorem tree_le (v : Fin 16 → Ideal .f32) (b : EReal) : (tree v : EReal) ≤ b ↔ ∀ k, (v k : EReal) ≤ b := by
  simp only [tree, Ideal.maximumf_def, max_le_iff, Fin.forall_fin_succ, Fin.forall_fin_zero, Fin.succ_zero_eq_one, and_true, and_assoc]
  exact Iff.rfl

/-- The two results agree. -/
theorem results_agree (m : (ℓ : Loc Cert.KernelIdeal.nD Cert.KernelIdeal.τ Cert.KernelIdeal.sig) → Buf (Elt Ideal) ℓ) (d : Dev Cert.KernelIdeal.nD)
    (hA : ∀ j : Cert.KernelIdeal.S25000x16.Idx, ((m (a2Loc d) : Cert.KernelIdeal.S25000x16.Idx → BitVec 32) j).toNat < 50000) :
    Cert.ReferenceIdeal.Value.Out (m (xLoc d)) (m (a2Loc d)) = (Res m d : Cert.KernelIdeal.S25000x128.Idx → Ideal .f32) := by
  funext y
  refine eq_of_forall_ge_iff (α := EReal) fun b => ?_
  rw [Cert.ReferenceIdeal.Value.Out_le _ _ hA, Cert.KernelIdeal.Pool.Res_apply, tree_le]
  refine forall_congr' fun k => ?_
  have e : Cert.KernelIdeal.Pool.fx ((m (a2Loc d) : Cert.KernelIdeal.S25000x16.Idx → BitVec 32) (Cert.KernelIdeal.Pool.nx (y 0) k)).toNat (y 1).val
      = Cert.ReferenceIdeal.Value.fx ⟨((m (a2Loc d) : Cert.KernelIdeal.S25000x16.Idx → BitVec 32) (Cert.ReferenceIdeal.Value.nx (y 0) k)).toNat, hA _⟩ (y 1) := by
    funext a
    match a with
    | 0 => exact Fin.ext (Nat.mod_eq_of_lt (hA (Cert.KernelIdeal.Pool.nx (y 0) k)))
    | 1 => exact Fin.ext (Nat.mod_eq_of_lt (y 1).isLt)
  rw [e]

/-- The algebraic claim. -/
theorem algebraic : Cert.algebraic_KernelIdeal_ReferenceIdeal := by
  intro m g m' g' hpre hm
  have hA := fun d j => words_small _ _ _ (hpre d) j
  refine ⟨fun c => Res m c, ?_, ?_⟩
  · exact (θ_run Cert.KernelIdeal.defs _ _).mono (fun _ h c => ⟨(h.1 c).2.2.2, (h.1 c).1, (h.1 c).2.1, (h.1 c).2.2.1⟩)
      (Cert.KernelIdeal.Pool.run_main (F := Ideal) m g (Cert.KernelIdeal.Pool.ok_of_small m hA))
  · exact (θ_run Cert.ReferenceIdeal.defs _ _).mono
      (fun _ h c => ⟨(h c).1.trans ((congrArg₂ Cert.ReferenceIdeal.Value.Out (hm c).2.1 (hm c).2.2).trans (results_agree m c (hA c))), (h c).2⟩)
      (Cert.ReferenceIdeal.Value.run_out m' g')

end Cert.Value

end
-- ==== Proof.lean ====
/-
  The certificate: the frames of the kernel at both float instances and of the reference, and the equality of the
  kernel over the extended reals with the reference. The kernel's run is in Proof/Pool (and, at the other instance,
  Proof/PoolIdeal); the values at an index are in Proof/Value.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Pool.Frame
public import proofs.«01_k».proof.Proof.PoolIdeal.Frame
public import proofs.«01_k».proof.Proof.Value.Reference
public import proofs.«01_k».proof.Proof.Value.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    Cert.Kernel.Pool.frame, Cert.KernelIdeal.Pool.frame, Cert.ReferenceIdeal.Value.frame, Cert.ReferenceIdeal.Value.frame_in_range,
    trivial, Cert.Value.algebraic⟩

end Cert.Proof

end
